-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_in_range : Cert.Pre_in_range.Facts] (m : (ℓ : Loc Cert.Kernel4.nD Cert.Kernel4.τ Cert.Kernel4.sig) → Buf (Elt Bits) ℓ) : Prop :=
  ∀ c : Dev Cert.Kernel4.nD,
    (Cert.Pre_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_in_range : Cert.Pre_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_in_range [hPre_in_range : Cert.Pre_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 [hPre_in_range_up : Cert.Pre_in_range_up.Facts] (m : (ℓ : Loc Cert.Kernel5.nD Cert.Kernel5.τ Cert.Kernel5.sig) → Buf (Elt Bits) ℓ) : Prop :=
  ∀ c : Dev Cert.Kernel5.nD,
    (Cert.Pre_in_range_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_in_range_up : Cert.Pre_in_range_up.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_range_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_in_range_up [hPre_in_range_up : Cert.Pre_in_range_up.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_in_range_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] [hPre_in_range : Cert.Pre_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_in_range : Cert.Pre_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_in_range [hReference4Ideal : Cert.Reference4Ideal.Facts] [hPre_in_range : Cert.Pre_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_in_range_up : Cert.Pre_in_range_up.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_in_range_up : Cert.Pre_in_range_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_in_range_up [hReference5Ideal : Cert.Reference5Ideal.Facts] [hPre_in_range_up : Cert.Pre_in_range_up.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_in_range_up m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] [hPre_in_range : Cert.Pre_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_in_range_up : Cert.Pre_in_range_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_in_range : Cert.Pre_in_range.Facts) (hPre_in_range_up : Cert.Pre_in_range_up.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_in_range := hPre_in_range)
    ∧ quiescent_Kernel4Ideal (hKernel4Ideal := hKernel4Ideal) (hPre_in_range := hPre_in_range)
    ∧ quiescent_Reference4Ideal (hReference4Ideal := hReference4Ideal)
    ∧ quiescent_Reference4Ideal_pre_in_range (hReference4Ideal := hReference4Ideal) (hPre_in_range := hPre_in_range)
    ∧ quiescent_Kernel5 (hKernel5 := hKernel5) (hPre_in_range_up := hPre_in_range_up)
    ∧ quiescent_Kernel5Ideal (hKernel5Ideal := hKernel5Ideal) (hPre_in_range_up := hPre_in_range_up)
    ∧ quiescent_Reference5Ideal (hReference5Ideal := hReference5Ideal)
    ∧ quiescent_Reference5Ideal_pre_in_range_up (hReference5Ideal := hReference5Ideal) (hPre_in_range_up := hPre_in_range_up)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_in_range := hPre_in_range)
    ∧ preserves_Kernel5_Kernel5Ideal
    ∧ algebraic_Kernel5Ideal_Reference5Ideal (hKernel5Ideal := hKernel5Ideal) (hReference5Ideal := hReference5Ideal) (hPre_in_range_up := hPre_in_range_up)
-- ==== Pre_in_range.lean ====
abbrev S288 : Shape := ⟨1, ![288]⟩
abbrev S1 : Shape := ⟨1, ![1]⟩
abbrev S36864x2048 : Shape := ⟨2, ![36864, 2048]⟩
abbrev S32x2048x2048 : Shape := ⟨3, ![32, 2048, 2048]⟩
abbrev S32x2048 : Shape := ⟨2, ![32, 2048]⟩
abbrev S_ : Shape := ⟨0, ![]⟩

class Facts : Prop where
  bcast_S_S288 : S_.BroadcastsInDim S288 (![] : Fin 0 → Fin S288.rank)
  shapeCasts_S1_S_ : S1.ShapeCasts S_

variable [Facts]

def fn {F : FTy → Type} [FloatOps F] (main_arg0 : IVec S288 32) (main_arg1 : IVec S1 32) (main_arg2 : IVec S36864x2048 32) (main_arg3 : FVec F S32x2048x2048 .f32) (main_arg4 : FVec F S32x2048 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S288 1 := broadcastInDim S288 ![] bcast_S_S288 main_v6
  let main_v8 : IVec S288 1 := andi main_v4 main_v7
  let main_v9 : IVec S_ 32 := shapeCast S_ main_arg1 shapeCasts_S1_S_
  let main_c_2 : IVec S_ 32 := constantI S_ 32 288#32
  let main_v10 : IVec S_ 1 := cmpi .sle main_v9 main_c_2
  let main_v11 : IVec S288 1 := broadcastInDim S288 ![] bcast_S_S288 main_v10
  let main_v12 : IVec S288 1 := andi main_v8 main_v11
  main_v12
-- ==== Pre_in_range_up.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x4096 : Shape := ⟨2, ![32, 4096]⟩
abbrev S_ : Shape := ⟨0, ![]⟩

class Facts : Prop where
  bcast_S_S288 : S_.BroadcastsInDim S288 (![] : Fin 0 → Fin S288.rank)
  shapeCasts_S1_S_ : S1.ShapeCasts S_

variable [Facts]

def fn {F : FTy → Type} [FloatOps F] (main_arg0 : IVec S288 32) (main_arg1 : IVec S1 32) (main_arg2 : IVec S73728x1024 32) (main_arg3 : FVec F S32x2048x4096 .f32) (main_arg4 : FVec F S32x4096 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S288 1 := broadcastInDim S288 ![] bcast_S_S288 main_v6
  let main_v8 : IVec S288 1 := andi main_v4 main_v7
  let main_v9 : IVec S_ 32 := shapeCast S_ main_arg1 shapeCasts_S1_S_
  let main_c_2 : IVec S_ 32 := constantI S_ 32 288#32
  let main_v10 : IVec S_ 1 := cmpi .sle main_v9 main_c_2
  let main_v11 : IVec S288 1 := broadcastInDim S288 ![] bcast_S_S288 main_v10
  let main_v12 : IVec S288 1 := andi main_v8 main_v11
  main_v12
-- ==== Kernel.lean ====
abbrev S16384x20480 : Shape := ⟨2, ![16384, 20480]⟩
abbrev S16384x64 : Shape := ⟨2, ![16384, 64]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S64x16384 : Shape := ⟨2, ![64, 16384]⟩
abbrev S1x6144 : Shape := ⟨2, ![1, 6144]⟩
abbrev S64x1 : Shape := ⟨2, ![64, 1]⟩
abbrev S1x4096 : Shape := ⟨2, ![1, 4096]⟩
abbrev S80 : Shape := ⟨1, ![80]⟩
abbrev S80x1 : Shape := ⟨2, ![80, 1]⟩
abbrev S1536 : Shape := ⟨1, ![1536]⟩
abbrev S1x1536 : Shape := ⟨2, ![1, 1536]⟩
abbrev S_ : Shape := ⟨0, ![]⟩
abbrev S80x1536 : Shape := ⟨2, ![80, 1536]⟩
abbrev S64x64 : Shape := ⟨2, ![64, 64]⟩
abbrev S16384x4096 : Shape := ⟨2, ![16384, 4096]⟩
abbrev S256x4096 : Shape := ⟨2, ![256, 4096]⟩
abbrev S256x1024 : Shape := ⟨2, ![256, 1024]⟩
abbrev S64x256 : Shape := ⟨2, ![64, 256]⟩
abbrev S4x4096 : Shape := ⟨2, ![4, 4096]⟩
abbrev S4x1024 : Shape := ⟨2, ![4, 1024]⟩
abbrev S1x1024 : Shape := ⟨2, ![1, 1024]⟩
abbrev S8x128x512 : Shape := ⟨3, ![8, 128, 512]⟩
abbrev S264x4096 : Shape := ⟨2, ![264, 4096]⟩
abbrev S264x1024 : Shape := ⟨2, ![264, 1024]⟩
abbrev S8x4096 : Shape := ⟨2, ![8, 4096]⟩
abbrev S8x1024 : Shape := ⟨2, ![8, 1024]⟩
abbrev S256x256 : Shape := ⟨2, ![256, 256]⟩
abbrev S256x128 : Shape := ⟨2, ![256, 128]⟩
abbrev S256x512 : Shape := ⟨2, ![256, 512]⟩
abbrev S8x256 : Shape := ⟨2, ![8, 256]⟩
abbrev S24x256 : Shape := ⟨2, ![24, 256]⟩
abbrev S8x1 : Shape := ⟨2, ![8, 1]⟩
abbrev S80x256 : Shape := ⟨2, ![80, 256]⟩
abbrev S256x80 : Shape := ⟨2, ![256, 80]⟩
abbrev S256x8 : Shape := ⟨2, ![256, 8]⟩
abbrev S256x1536 : Shape := ⟨2, ![256, 1536]⟩
abbrev S1x128x512 : Shape := ⟨3, ![1, 128, 512]⟩
abbrev S128x512 : Shape := ⟨2, ![128, 512]⟩
abbrev S256x1 : Shape := ⟨2, ![256, 1]⟩
abbrev S1x256 : Shape := ⟨2, ![1, 256]⟩
abbrev S1x512 : Shape := ⟨2, ![1, 512]⟩
abbrev S256 : Shape := ⟨1, ![256]⟩

abbrev nBuf : Space → Nat
  | .hbm => 116
  | .vmem => 27
  | .smem => 0
  | _ => 0

abbrev bufTy : (tb : Table) → Fin (tcTables nBuf tb) → BufTy
  | .hbm, ⟨0, _⟩ => ⟨S16384x20480, .bf16⟩
  | .hbm, ⟨1, _⟩ => ⟨S16384x64, .f32⟩
  | .hbm, ⟨2, _⟩ => ⟨S4x6144, .f32⟩
  | .hbm, ⟨3, _⟩ => ⟨S6144, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S4096, .f32⟩
  | .hbm, ⟨8, _⟩ => ⟨S64x16384, .f32⟩
  | .hbm, ⟨9, _⟩ => ⟨S1x6144, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S1x4096, .f32⟩
  | .hbm, ⟨14, _⟩ => ⟨S80, .i32⟩
  | .hbm, ⟨15, _⟩ => ⟨S80x1, .i32⟩
  | .hbm, ⟨16, _⟩ => ⟨S1536, .i32⟩
  | .hbm, ⟨17, _⟩ => ⟨S1x1536, .i32⟩
  | .hbm, ⟨18, _⟩ => ⟨S_, .i32⟩
  | .hbm, ⟨19, _⟩ => ⟨S80x1, .i32⟩
  | .hbm, ⟨20, _⟩ => ⟨S80x1, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S80x1, .i32⟩
  | .hbm, ⟨28, _⟩ => ⟨S80x1, .i32⟩
  | .hbm, ⟨29, _⟩ => ⟨S_, .i32⟩
  | .hbm, ⟨30, _⟩ => ⟨S80x1, .i32⟩
  | .hbm, ⟨31, _⟩ => ⟨S80x1, .i1⟩
  | .hbm, ⟨32, _⟩ => ⟨S_, .i32⟩
  | .hbm, ⟨33, _⟩ => ⟨S80x1, .i32⟩
  | .hbm, ⟨34, _⟩ => ⟨S80x1, .i1⟩
  | .hbm, ⟨35, _⟩ => ⟨S_, .i32⟩
  | .hbm, ⟨36, _⟩ => ⟨S_, .i1⟩
  | .hbm, ⟨37, _⟩ => ⟨S80x1, .i1⟩
  | .hbm, ⟨38, _⟩ => ⟨S80x1, .i1⟩
  | .hbm, ⟨39, _⟩ => ⟨S80x1, .i1⟩
  | .hbm, ⟨40, _⟩ => ⟨S80x1, .i32⟩
  | .hbm, ⟨41, _⟩ => ⟨S80x1, .i32⟩
  | .hbm, ⟨42, _⟩ => ⟨S80x1, .i32⟩
  | .hbm, ⟨43, _⟩ => ⟨S_, .i32⟩
  | .hbm, ⟨44, _⟩ => ⟨S_, .i32⟩
  | .hbm, ⟨45, _⟩ => ⟨S1x1536, .i32⟩
  | .hbm, ⟨46, _⟩ => ⟨S1x1536, .i32⟩
  | .hbm, ⟨47, _⟩ => ⟨S1x1536, .i32⟩
  | .hbm, ⟨48, _⟩ => ⟨S_, .i32⟩
  | .hbm, ⟨49, _⟩ => ⟨S1x1536, .i32⟩
  | .hbm, ⟨50, _⟩ => ⟨S1x1536, .i1⟩
  | .hbm, ⟨51, _⟩ => ⟨S1x1536, .i32⟩
  | .hbm, ⟨52, _⟩ => ⟨S1x1536, .i32⟩
  | .hbm, ⟨53, _⟩ => ⟨S_, .i32⟩
  | .hbm, ⟨54, _⟩ => ⟨S1x1536, .i32⟩
  | .hbm, ⟨55, _⟩ => ⟨S1x1536, .i1⟩
  | .hbm, ⟨56, _⟩ => ⟨S1x1536, .i1⟩
  | .hbm, ⟨57, _⟩ => ⟨S_, .i32⟩
  | .hbm, ⟨58, _⟩ => ⟨S1x1536, .i32⟩
  | .hbm, ⟨59, _⟩ => ⟨S1x1536, .i32⟩
  | .hbm, ⟨60, _⟩ => ⟨S1x1536, .i32⟩
  | .hbm, ⟨61, _⟩ => ⟨S_, .i32⟩
  | .hbm, ⟨62, _⟩ => ⟨S1x1536, .i32⟩
  | .hbm, ⟨63, _⟩ => ⟨S1x1536, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S1x1536, .i32⟩
  | .hbm, ⟨71, _⟩ => ⟨S1x1536, .i32⟩
  | .hbm, ⟨72, _⟩ => ⟨S_, .i32⟩
  | .hbm, ⟨73, _⟩ => ⟨S1x1536, .i32⟩
  | .hbm, ⟨74, _⟩ => ⟨S1x1536, .i1⟩
  | .hbm, ⟨75, _⟩ => ⟨S_, .i32⟩
  | .hbm, ⟨76, _⟩ => ⟨S1x1536, .i32⟩
  | .hbm, ⟨77, _⟩ => ⟨S1x1536, .i1⟩
  | .hbm, ⟨78, _⟩ => ⟨S_, .i32⟩
  | .hbm, ⟨79, _⟩ => ⟨S_, .i1⟩
  | .hbm, ⟨80, _⟩ => ⟨S1x1536, .i1⟩
  | .hbm, ⟨81, _⟩ => ⟨S1x1536, .i1⟩
  | .hbm, ⟨82, _⟩ => ⟨S1x1536, .i1⟩
  | .hbm, ⟨83, _⟩ => ⟨S1x1536, .i32⟩
  | .hbm, ⟨84, _⟩ => ⟨S1x1536, .i32⟩
  | .hbm, ⟨85, _⟩ => ⟨S1x1536, .i32⟩
  | .hbm, ⟨86, _⟩ => ⟨S_, .i32⟩
  | .hbm, ⟨87, _⟩ => ⟨S_, .i32⟩
  | .hbm, ⟨88, _⟩ => ⟨S1x1536, .i32⟩
  | .hbm, ⟨89, _⟩ => ⟨S1x1536, .i32⟩
  | .hbm, ⟨90, _⟩ => ⟨S1x1536, .i32⟩
  | .hbm, ⟨91, _⟩ => ⟨S_, .i32⟩
  | .hbm, ⟨92, _⟩ => ⟨S1x1536, .i32⟩
  | .hbm, ⟨93, _⟩ => ⟨S1x1536, .i1⟩
  | .hbm, ⟨94, _⟩ => ⟨S1x1536, .i32⟩
  | .hbm, ⟨95, _⟩ => ⟨S1x1536, .i32⟩
  | .hbm, ⟨96, _⟩ => ⟨S_, .i32⟩
  | .hbm, ⟨97, _⟩ => ⟨S1x1536, .i32⟩
  | .hbm, ⟨98, _⟩ => ⟨S1x1536, .i1⟩
  | .hbm, ⟨99, _⟩ => ⟨S1x1536, .i1⟩
  | .hbm, ⟨100, _⟩ => ⟨S_, .i32⟩
  | .hbm, ⟨101, _⟩ => ⟨S1x1536, .i32⟩
  | .hbm, ⟨102, _⟩ => ⟨S1x1536, .i32⟩
  | .hbm, ⟨103, _⟩ => ⟨S1x1536, .i32⟩
  | .hbm, ⟨104, _⟩ => ⟨S1x1536, .i32⟩
  | .hbm, ⟨105, _⟩ => ⟨S80x1536, .i32⟩
  | .hbm, ⟨106, _⟩ => ⟨S80x1536, .i32⟩
  | .hbm, ⟨107, _⟩ => ⟨S80x1536, .i1⟩
  | .hbm, ⟨108, _⟩ => ⟨S80x1536, .i1⟩
  | .hbm, ⟨109, _⟩ => ⟨S80x1536, .i1⟩
  | .hbm, ⟨110, _⟩ => ⟨S80x1536, .bf16⟩
  | .hbm, ⟨111, _⟩ => ⟨S64, .f32⟩
  | .hbm, ⟨112, _⟩ => ⟨S64x64, .f32⟩
  | .hbm, ⟨113, _⟩ => ⟨S4096, .f32⟩
  | .hbm, ⟨114, _⟩ => ⟨S1x4096, .f32⟩
  | .hbm, ⟨115, _⟩ => ⟨S16384x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S64x256, .f32⟩
  | .local _ .vmem, ⟨9, _⟩ => ⟨S64x256, .f32⟩
  | .local _ .vmem, ⟨10, _⟩ => ⟨S80x1536, .bf16⟩
  | .local _ .vmem, ⟨11, _⟩ => ⟨S4x4096, .f32⟩
  | .local _ .vmem, ⟨12, _⟩ => ⟨S4x1024, .f32⟩
  | .local _ .vmem, ⟨13, _⟩ => ⟨S4x1024, .f32⟩
  | .local _ .vmem, ⟨14, _⟩ => ⟨S1x4096, .f32⟩
  | .local _ .vmem, ⟨15, _⟩ => ⟨S1x1024, .f32⟩
  | .local _ .vmem, ⟨16, _⟩ => ⟨S1x1024, .f32⟩
  | .local _ .vmem, ⟨17, _⟩ => ⟨S64x1, .f32⟩
  | .local _ .vmem, ⟨18, _⟩ => ⟨S64x1, .f32⟩
  | .local _ .vmem, ⟨19, _⟩ => ⟨S1x4096, .f32⟩
  | .local _ .vmem, ⟨20, _⟩ => ⟨S1x4096, .f32⟩
  | .local _ .vmem, ⟨21, _⟩ => ⟨S256x4096, .bf16⟩
  | .local _ .vmem, ⟨22, _⟩ => ⟨S256x4096, .bf16⟩
  | .local _ .vmem, ⟨23, _⟩ => ⟨S8x128x512, .f32⟩
  | .local _ .vmem, ⟨24, _⟩ => ⟨S264x4096, .f32⟩
  | .local _ .vmem, ⟨25, _⟩ => ⟨S264x1024, .f32⟩
  | .local _ .vmem, ⟨26, _⟩ => ⟨S264x1024, .f32⟩
  | _, _ => ⟨S16384x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v12 : Ref sig .tc := ⟨.hbm, 42, rfl⟩
abbrev main_c_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v13 : Ref sig .tc := ⟨.hbm, 60, rfl⟩
abbrev main_c_2 : Ref sig .tc := ⟨.hbm, 61, rfl⟩
abbrev main_v14 : Ref sig .tc := ⟨.hbm, 62, rfl⟩
abbrev main_v15 : Ref sig .tc := ⟨.hbm, 63, rfl⟩
abbrev main_c_3 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_v5 : Ref sig .tc := ⟨.hbm, 73, rfl⟩
abbrev main_call2_v6 : Ref sig .tc := ⟨.hbm, 74, rfl⟩
abbrev main_call2_c_2 : Ref sig .tc := ⟨.hbm, 75, rfl⟩
abbrev main_call2_v7 : Ref sig .tc := ⟨.hbm, 76, rfl⟩
abbrev main_call2_v8 : Ref sig .tc := ⟨.hbm, 77, rfl⟩
abbrev main_call2_c_3 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_v16 : Ref sig .tc := ⟨.hbm, 85, rfl⟩
abbrev main_c_4 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_c : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_0 : Ref sig .tc := ⟨.hbm, 100, rfl⟩
abbrev main_call3_v12 : Ref sig .tc := ⟨.hbm, 101, rfl⟩
abbrev main_call3_v13 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_v29 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S80x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S16384x20480 : Shape := ⟨2, ![16384, 20480]⟩
abbrev S16384x64 : Shape := ⟨2, ![16384, 64]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S16384x4096 : Shape := ⟨2, ![16384, 4096]⟩
abbrev S16384x6144 : Shape := ⟨2, ![16384, 6144]⟩
abbrev S_ : Shape := ⟨0, ![]⟩
abbrev S3x6144 : Shape := ⟨2, ![3, 6144]⟩
abbrev S16387x6144 : Shape := ⟨2, ![16387, 6144]⟩
abbrev S1x6144 : Shape := ⟨2, ![1, 6144]⟩
abbrev S16384x1024 : Shape := ⟨2, ![16384, 1024]⟩
abbrev S1x64 : Shape := ⟨2, ![1, 64]⟩
abbrev S16384x64x64 : Shape := ⟨3, ![16384, 64, 64]⟩
abbrev S16384x8x128 : Shape := ⟨3, ![16384, 8, 128]⟩
abbrev S256x64x8x8x64 : Shape := ⟨5, ![256, 64, 8, 8, 64]⟩
abbrev S256x64x8x8 : Shape := ⟨4, ![256, 64, 8, 8]⟩
abbrev S256x64x8x128 : Shape := ⟨4, ![256, 64, 8, 128]⟩
abbrev S8x8 : Shape := ⟨2, ![8, 8]⟩
abbrev S1x1x8x8 : Shape := ⟨4, ![1, 1, 8, 8]⟩
abbrev S256x64x8x8x1 : Shape := ⟨5, ![256, 64, 8, 8, 1]⟩
abbrev S256x64x1x8x8 : Shape := ⟨5, ![256, 64, 1, 8, 8]⟩
abbrev S256x1x64x8x8 : Shape := ⟨5, ![256, 1, 64, 8, 8]⟩
abbrev S256x64x64x8x8 : Shape := ⟨5, ![256, 64, 64, 8, 8]⟩
abbrev S64x64 : Shape := ⟨2, ![64, 64]⟩
abbrev S64x64x1x1 : Shape := ⟨4, ![64, 64, 1, 1]⟩
abbrev S256x8x64x64 : Shape := ⟨4, ![256, 8, 64, 64]⟩
abbrev S256x64x64x8 : Shape := ⟨4, ![256, 64, 64, 8]⟩
abbrev S256x64x64x8x1 : Shape := ⟨5, ![256, 64, 64, 8, 1]⟩
abbrev S256x8x8x64x64 : Shape := ⟨5, ![256, 8, 8, 64, 64]⟩
abbrev S256x1x8x8 : Shape := ⟨4, ![256, 1, 8, 8]⟩
abbrev S256x8x8x64x128 : Shape := ⟨5, ![256, 8, 8, 64, 128]⟩
abbrev S256x8x8 : Shape := ⟨3, ![256, 8, 8]⟩
abbrev S8x8x64x128 : Shape := ⟨4, ![8, 8, 64, 128]⟩
abbrev S1x8x8x64x128 : Shape := ⟨5, ![1, 8, 8, 64, 128]⟩
abbrev S1x8x8 : Shape := ⟨3, ![1, 8, 8]⟩
abbrev S8x8x1x1 : Shape := ⟨4, ![8, 8, 1, 1]⟩
abbrev S64x1 : Shape := ⟨2, ![64, 1]⟩
abbrev S1x64x1 : Shape := ⟨3, ![1, 64, 1]⟩
abbrev S16384x8x512 : Shape := ⟨3, ![16384, 8, 512]⟩
abbrev S16384x8 : Shape := ⟨2, ![16384, 8]⟩
abbrev S16384x8x1 : Shape := ⟨3, ![16384, 8, 1]⟩
abbrev S1x4096 : Shape := ⟨2, ![1, 4096]⟩

abbrev nBuf : Space → Nat
  | .hbm => 202
  | .vmem => 0
  | .smem => 0
  | _ => 0

abbrev hbmTy0_0 (i : Nat) : BufTy := match i % 128 with
  | 0 => ⟨S16384x20480, .bf16⟩
  | 1 => ⟨S16384x64, .f32⟩
  | 2 => ⟨S4x6144, .f32⟩
  | 3 => ⟨S6144, .f32⟩
  | 4 => ⟨S64, .f32⟩
  | 5 => ⟨S64, .f32⟩
  | 6 => ⟨S64, .f32⟩
  | 7 => ⟨S4096, .f32⟩
  | 8 => ⟨S16384x4096, .bf16⟩
  | 9 => ⟨S16384x4096, .f32⟩
  | 10 => ⟨S16384x6144, .bf16⟩
  | 11 => ⟨S16384x6144, .f32⟩
  | 12 => ⟨S_, .f32⟩
  | 13 => ⟨S3x6144, .f32⟩
  | 14 => ⟨S16387x6144, .f32⟩
  | 15 => ⟨S16384x6144, .f32⟩
  | 16 => ⟨S1x6144, .f32⟩
  | 17 => ⟨S6144, .f32⟩
  | 18 => ⟨S1x6144, .f32⟩
  | 19 => ⟨S16384x6144, .f32⟩
  | 20 => ⟨S16384x6144, .f32⟩
  | 21 => ⟨S16384x6144, .f32⟩
  | 22 => ⟨S1x6144, .f32⟩
  | 23 => ⟨S6144, .f32⟩
  | 24 => ⟨S1x6144, .f32⟩
  | 25 => ⟨S16384x6144, .f32⟩
  | 26 => ⟨S16384x6144, .f32⟩
  | 27 => ⟨S16384x6144, .f32⟩
  | 28 => ⟨S16384x6144, .f32⟩
  | 29 => ⟨S1x6144, .f32⟩
  | 30 => ⟨S6144, .f32⟩
  | 31 => ⟨S1x6144, .f32⟩
  | 32 => ⟨S16384x6144, .f32⟩
  | 33 => ⟨S16384x6144, .f32⟩
  | 34 => ⟨S16384x6144, .f32⟩
  | 35 => ⟨S16384x6144, .f32⟩
  | 36 => ⟨S1x6144, .f32⟩
  | 37 => ⟨S6144, .f32⟩
  | 38 => ⟨S1x6144, .f32⟩
  | 39 => ⟨S16384x6144, .f32⟩
  | 40 => ⟨S16384x6144, .f32⟩
  | 41 => ⟨S16384x6144, .f32⟩
  | 42 => ⟨S1x6144, .f32⟩
  | 43 => ⟨S16384x6144, .f32⟩
  | 44 => ⟨S16384x6144, .f32⟩
  | 45 => ⟨S16384x6144, .f32⟩
  | 46 => ⟨S16384x6144, .f32⟩
  | 47 => ⟨S_, .f32⟩
  | 48 => ⟨S16384x6144, .f32⟩
  | 49 => ⟨S16384x6144, .f32⟩
  | 50 => ⟨S_, .f32⟩
  | 51 => ⟨S16384x6144, .f32⟩
  | 52 => ⟨S16384x6144, .f32⟩
  | 53 => ⟨S16384x6144, .f32⟩
  | 54 => ⟨S16384x4096, .f32⟩
  | 55 => ⟨S16384x1024, .f32⟩
  | 56 => ⟨S16384x1024, .f32⟩
  | 57 => ⟨S1x64, .f32⟩
  | 58 => ⟨S16384x64, .f32⟩
  | 59 => ⟨S16384x64, .f32⟩
  | 60 => ⟨S_, .f32⟩
  | 61 => ⟨S16384x64, .f32⟩
  | 62 => ⟨S16384x64, .f32⟩
  | 63 => ⟨S16384x64, .f32⟩
  | 64 => ⟨S16384x64, .f32⟩
  | 65 => ⟨S16384x64, .i1⟩
  | 66 => ⟨S16384x64, .f32⟩
  | 67 => ⟨S16384x64, .f32⟩
  | 68 => ⟨S16384x64, .f32⟩
  | 69 => ⟨S16384x64, .f32⟩
  | 70 => ⟨S16384x64, .f32⟩
  | 71 => ⟨S16384x64, .f32⟩
  | 72 => ⟨S16384x64, .f32⟩
  | 73 => ⟨S16384x64, .f32⟩
  | 74 => ⟨S64, .f32⟩
  | 75 => ⟨S64, .f32⟩
  | 76 => ⟨S16384x64x64, .f32⟩
  | 77 => ⟨S16384x8x128, .f32⟩
  | 78 => ⟨S16384x8x128, .f32⟩
  | 79 => ⟨S256x64x8x8x64, .f32⟩
  | 80 => ⟨S256x64x8x8, .f32⟩
  | 81 => ⟨S256x64x8x128, .f32⟩
  | 82 => ⟨S256x64x8x128, .f32⟩
  | 83 => ⟨S8x8, .f32⟩
  | 84 => ⟨S1x1x8x8, .f32⟩
  | 85 => ⟨S256x64x8x8, .f32⟩
  | 86 => ⟨S256x64x8x8, .f32⟩
  | 87 => ⟨S_, .f32⟩
  | 88 => ⟨S_, .f32⟩
  | 89 => ⟨S256x64x8x8, .f32⟩
  | 90 => ⟨S256x64x8x8x1, .f32⟩
  | 91 => ⟨S256x64x8x8x64, .f32⟩
  | 92 => ⟨S256x64x8x8x64, .f32⟩
  | 93 => ⟨S256x64x1x8x8, .f32⟩
  | 94 => ⟨S256x1x64x8x8, .f32⟩
  | 95 => ⟨S256x64x64x8x8, .f32⟩
  | 96 => ⟨S256x64x64x8x8, .f32⟩
  | 97 => ⟨S256x64x64x8x8, .f32⟩
  | 98 => ⟨S_, .i1⟩
  | 99 => ⟨S64x64, .i1⟩
  | 100 => ⟨S64x64, .i32⟩
  | 101 => ⟨S_, .i32⟩
  | 102 => ⟨S64x64, .i32⟩
  | 103 => ⟨S64x64, .i32⟩
  | 104 => ⟨S64x64, .i32⟩
  | 105 => ⟨S64x64, .i1⟩
  | 106 => ⟨S_, .i1⟩
  | 107 => ⟨S64x64, .i1⟩
  | 108 => ⟨S64x64, .i1⟩
  | 109 => ⟨S64x64x1x1, .i1⟩
  | 110 => ⟨S_, .f32⟩
  | 111 => ⟨S_, .f32⟩
  | 112 => ⟨S256x64x64x8x8, .i1⟩
  | 113 => ⟨S256x64x64x8x8, .f32⟩
  | 114 => ⟨S256x64x64x8x8, .f32⟩
  | 115 => ⟨S256x64x64x8x8, .f32⟩
  | 116 => ⟨S256x8x64x64, .f32⟩
  | 117 => ⟨S256x64x64x8, .f32⟩
  | 118 => ⟨S256x64x64x8x1, .f32⟩
  | 119 => ⟨S256x64x64x8x8, .f32⟩
  | 120 => ⟨S256x64x64x8x8, .f32⟩
  | 121 => ⟨S256x8x8x64x64, .f32⟩
  | 122 => ⟨S256x64x8x8x64, .f32⟩
  | 123 => ⟨S256x1x8x8, .f32⟩
  | 124 => ⟨S256x64x8x8, .f32⟩
  | 125 => ⟨S256x64x8x8, .f32⟩
  | 126 => ⟨S256x64x8x8, .f32⟩
  | 127 => ⟨S256x64x8x8x1, .f32⟩
  | _ => ⟨S16384x20480, .bf16⟩

abbrev hbmTy0_1 (i : Nat) : BufTy := match i % 128 with
  | 0 => ⟨S256x64x8x8x64, .f32⟩
  | 1 => ⟨S256x64x8x8x64, .f32⟩
  | 2 => ⟨S256x8x8x64x128, .f32⟩
  | 3 => ⟨S256x1x8x8, .f32⟩
  | 4 => ⟨S256x8x8, .f32⟩
  | 5 => ⟨S256x8x8, .f32⟩
  | 6 => ⟨S_, .f32⟩
  | 7 => ⟨S8x8x64x128, .f32⟩
  | 8 => ⟨S_, .f32⟩
  | 9 => ⟨S256x8x8x64x128, .f32⟩
  | 10 => ⟨S_, .i32⟩
  | 11 => ⟨S256x8x8x64x128, .f32⟩
  | 12 => ⟨S256x8x8, .f32⟩
  | 13 => ⟨S_, .i32⟩
  | 14 => ⟨S8x8x64x128, .f32⟩
  | 15 => ⟨S256x8x8x64x128, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S1x8x8x64x128, .f32⟩
  | 23 => ⟨S8x8x64x128, .f32⟩
  | 24 => ⟨S_, .i32⟩
  | 25 => ⟨S_, .i32⟩
  | 26 => ⟨S1x8x8, .f32⟩
  | 27 => ⟨S8x8, .f32⟩
  | 28 => ⟨S8x8x1x1, .f32⟩
  | 29 => ⟨S8x8x64x128, .f32⟩
  | 30 => ⟨S8x8x64x128, .f32⟩
  | 31 => ⟨S8x8x64x128, .f32⟩
  | 32 => ⟨S1x8x8x64x128, .f32⟩
  | 33 => ⟨S_, .i32⟩
  | 34 => ⟨S_, .i32⟩
  | 35 => ⟨S_, .i32⟩
  | 36 => ⟨S_, .i32⟩
  | 37 => ⟨S256x8x8x64x128, .f32⟩
  | 38 => ⟨S_, .i32⟩
  | 39 => ⟨S_, .i32⟩
  | 40 => ⟨S256x8x8x64x64, .f32⟩
  | 41 => ⟨S256x64x8x8x64, .f32⟩
  | 42 => ⟨S256x64x8x8, .f32⟩
  | 43 => ⟨S256x64x8x8x1, .f32⟩
  | 44 => ⟨S256x64x8x8x64, .f32⟩
  | 45 => ⟨S256x64x8x8x64, .f32⟩
  | 46 => ⟨S256x64x8x8x64, .f32⟩
  | 47 => ⟨S16384x64x64, .f32⟩
  | 48 => ⟨S64x1, .f32⟩
  | 49 => ⟨S1x64x1, .f32⟩
  | 50 => ⟨S16384x64x64, .f32⟩
  | 51 => ⟨S16384x64x64, .f32⟩
  | 52 => ⟨S16384x64x64, .f32⟩
  | 53 => ⟨S16384x4096, .f32⟩
  | 54 => ⟨S16384x4096, .f32⟩
  | 55 => ⟨S16384x8x512, .f32⟩
  | 56 => ⟨S16384x8x512, .f32⟩
  | 57 => ⟨S_, .f32⟩
  | 58 => ⟨S16384x8, .f32⟩
  | 59 => ⟨S16384x8x1, .f32⟩
  | 60 => ⟨S_, .f32⟩
  | 61 => ⟨S16384x8x1, .f32⟩
  | 62 => ⟨S16384x8x1, .f32⟩
  | 63 => ⟨S_, .f32⟩
  | 64 => ⟨S16384x8x1, .f32⟩
  | 65 => ⟨S16384x8x1, .f32⟩
  | 66 => ⟨S16384x8x1, .f32⟩
  | 67 => ⟨S16384x8x512, .f32⟩
  | 68 => ⟨S16384x8x512, .f32⟩
  | 69 => ⟨S16384x4096, .f32⟩
  | 70 => ⟨S1x4096, .f32⟩
  | 71 => ⟨S16384x4096, .f32⟩
  | 72 => ⟨S16384x4096, .f32⟩
  | 73 => ⟨S16384x4096, .bf16⟩
  | _ => ⟨S16384x20480, .bf16⟩

abbrev hbmTy (i : Nat) : BufTy := match i / 128 with
  | 0 => hbmTy0_0 i
  | 1 => hbmTy0_1 i
  | _ => ⟨S16384x20480, .bf16⟩

abbrev bufTy : (tb : Table) → Fin (tcTables nBuf tb) → BufTy
  | .hbm, ⟨i, _⟩ => hbmTy i
  | _, _ => ⟨S16384x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_call0_cst : Ref sig .tc := ⟨.hbm, 87, rfl⟩
abbrev main_call2_call0_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c : Ref sig .tc := ⟨.hbm, 98, rfl⟩
abbrev main_v66 : Ref sig .tc := ⟨.hbm, 99, rfl⟩
abbrev main_call3_v0 : Ref sig .tc := ⟨.hbm, 100, rfl⟩
abbrev main_call3_c : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_c_0 : Ref sig .tc := ⟨.hbm, 106, rfl⟩
abbrev main_call3_v5 : Ref sig .tc := ⟨.hbm, 107, rfl⟩
abbrev main_v67 : Ref sig .tc := ⟨.hbm, 108, rfl⟩
abbrev main_v68 : Ref sig .tc := ⟨.hbm, 109, rfl⟩
abbrev main_cst_0 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_1 : Ref sig .tc := ⟨.hbm, 134, rfl⟩
abbrev main_v89 : Ref sig .tc := ⟨.hbm, 135, rfl⟩
abbrev main_cst_2 : Ref sig .tc := ⟨.hbm, 136, rfl⟩
abbrev main_v90 : Ref sig .tc := ⟨.hbm, 137, rfl⟩
abbrev main_c_3 : Ref sig .tc := ⟨.hbm, 138, rfl⟩
abbrev main_v91_0 : Ref sig .tc := ⟨.hbm, 139, rfl⟩
abbrev main_v91_1 : Ref sig .tc := ⟨.hbm, 140, rfl⟩
abbrev main_v91_2 : Ref sig .tc := ⟨.hbm, 141, rfl⟩
abbrev main_v91_3 : Ref sig .tc := ⟨.hbm, 142, rfl⟩
abbrev main_v91_4 : Ref sig .tc := ⟨.hbm, 143, rfl⟩
abbrev main_while0c_c_11 : Ref sig .tc := ⟨.hbm, 144, rfl⟩
abbrev main_while0c_v123 : Ref sig .tc := ⟨.hbm, 145, rfl⟩
abbrev main_while0b_call5_c : Ref sig .tc := ⟨.hbm, 146, rfl⟩
abbrev main_while0b_call5_c_0 : Ref sig .tc := ⟨.hbm, 147, rfl⟩
abbrev main_while0b_call5_c_1 : Ref sig .tc := ⟨.hbm, 148, rfl⟩
abbrev main_while0b_call5_c_2 : Ref sig .tc := ⟨.hbm, 149, rfl⟩
abbrev main_while0b_call5_v0 : Ref sig .tc := ⟨.hbm, 150, rfl⟩
abbrev main_while0b_v123 : Ref sig .tc := ⟨.hbm, 151, rfl⟩
abbrev main_while0b_call6_c : Ref sig .tc := ⟨.hbm, 152, rfl⟩
abbrev main_while0b_call6_c_0 : Ref sig .tc := ⟨.hbm, 153, rfl⟩
abbrev main_while0b_call6_v0 : Ref sig .tc := ⟨.hbm, 154, rfl⟩
abbrev main_while0b_v124 : Ref sig .tc := ⟨.hbm, 155, rfl⟩
abbrev main_while0b_v125 : Ref sig .tc := ⟨.hbm, 156, rfl⟩
abbrev main_while0b_v126 : Ref sig .tc := ⟨.hbm, 157, rfl⟩
abbrev main_while0b_v127 : Ref sig .tc := ⟨.hbm, 158, rfl⟩
abbrev main_while0b_v128 : Ref sig .tc := ⟨.hbm, 159, rfl⟩
abbrev main_while0b_call7_v0 : Ref sig .tc := ⟨.hbm, 160, rfl⟩
abbrev main_while0b_call7_c : Ref sig .tc := ⟨.hbm, 161, rfl⟩
abbrev main_while0b_call7_c_0 : Ref sig .tc := ⟨.hbm, 162, rfl⟩
abbrev main_while0b_call7_c_1 : Ref sig .tc := ⟨.hbm, 163, rfl⟩
abbrev main_while0b_call7_c_2 : Ref sig .tc := ⟨.hbm, 164, rfl⟩
abbrev main_while0b_v129 : Ref sig .tc := ⟨.hbm, 165, rfl⟩
abbrev main_while0b_c_11 : Ref sig .tc := ⟨.hbm, 166, rfl⟩
abbrev main_while0b_v130 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_cst_4 : Ref sig .tc := ⟨.hbm, 185, rfl⟩
abbrev main_v109 : Ref sig .tc := ⟨.hbm, 186, rfl⟩
abbrev main_v110 : Ref sig .tc := ⟨.hbm, 187, rfl⟩
abbrev main_cst_5 : Ref sig .tc := ⟨.hbm, 188, rfl⟩
abbrev main_v111 : Ref sig .tc := ⟨.hbm, 189, rfl⟩
abbrev main_v112 : Ref sig .tc := ⟨.hbm, 190, rfl⟩
abbrev main_cst_6 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16384x4096 : Shape := ⟨2, ![16384, 4096]⟩
abbrev S16384x20480 : Shape := ⟨2, ![16384, 20480]⟩
abbrev S4096 : Shape := ⟨1, ![4096]⟩
abbrev S3x2048 : Shape := ⟨2, ![3, 2048]⟩
abbrev S4096x2048 : Shape := ⟨2, ![4096, 2048]⟩
abbrev S2048x2048 : Shape := ⟨2, ![2048, 2048]⟩
abbrev S1x4096 : Shape := ⟨2, ![1, 4096]⟩
abbrev S16384x2048 : Shape := ⟨2, ![16384, 2048]⟩
abbrev S256x4096 : Shape := ⟨2, ![256, 4096]⟩
abbrev S256x2048 : Shape := ⟨2, ![256, 2048]⟩
abbrev S8x2048 : Shape := ⟨2, ![8, 2048]⟩
abbrev S1x2048 : Shape := ⟨2, ![1, 2048]⟩
abbrev S264x2048 : Shape := ⟨2, ![264, 2048]⟩

abbrev nBuf : Space → Nat
  | .hbm => 10
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384x20480, .bf16⟩
  | .hbm, ⟨2, _⟩ => ⟨S4096, .f32⟩
  | .hbm, ⟨3, _⟩ => ⟨S3x2048, .f32⟩
  | .hbm, ⟨4, _⟩ => ⟨S4096x2048, .f32⟩
  | .hbm, ⟨5, _⟩ => ⟨S2048x2048, .f32⟩
  | .hbm, ⟨6, _⟩ => ⟨S1x4096, .f32⟩
  | .hbm, ⟨7, _⟩ => ⟨S4096x2048, .bf16⟩
  | .hbm, ⟨8, _⟩ => ⟨S2048x2048, .bf16⟩
  | .hbm, ⟨9, _⟩ => ⟨S16384x2048, .bf16⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S8x2048, .bf16⟩
  | .local _ .vmem, ⟨9, _⟩ => ⟨S8x2048, .bf16⟩
  | .local _ .vmem, ⟨10, _⟩ => ⟨S8x2048, .bf16⟩
  | .local _ .vmem, ⟨11, _⟩ => ⟨S8x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S3x2048, .f32⟩
  | .local _ .vmem, ⟨19, _⟩ => ⟨S4096x2048, .bf16⟩
  | .local _ .vmem, ⟨20, _⟩ => ⟨S2048x2048, .bf16⟩
  | .local _ .vmem, ⟨21, _⟩ => ⟨S256x2048, .bf16⟩
  | .local _ .vmem, ⟨22, _⟩ => ⟨S256x2048, .bf16⟩
  | .local _ .vmem, ⟨23, _⟩ => ⟨S264x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x4096 : Shape := ⟨2, ![16384, 4096]⟩
abbrev S16384x20480 : Shape := ⟨2, ![16384, 20480]⟩
abbrev S4096 : Shape := ⟨1, ![4096]⟩
abbrev S3x2048 : Shape := ⟨2, ![3, 2048]⟩
abbrev S4096x2048 : Shape := ⟨2, ![4096, 2048]⟩
abbrev S2048x2048 : Shape := ⟨2, ![2048, 2048]⟩
abbrev S16384x6144 : Shape := ⟨2, ![16384, 6144]⟩
abbrev S16384x2048 : Shape := ⟨2, ![16384, 2048]⟩
abbrev S_ : Shape := ⟨0, ![]⟩
abbrev S2x2048 : Shape := ⟨2, ![2, 2048]⟩
abbrev S16386x2048 : Shape := ⟨2, ![16386, 2048]⟩
abbrev S1x2048 : Shape := ⟨2, ![1, 2048]⟩
abbrev S2048 : Shape := ⟨1, ![2048]⟩
abbrev S1x4096 : Shape := ⟨2, ![1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x20480, .bf16⟩
  | .hbm, ⟨2, _⟩ => ⟨S4096, .f32⟩
  | .hbm, ⟨3, _⟩ => ⟨S3x2048, .f32⟩
  | .hbm, ⟨4, _⟩ => ⟨S4096x2048, .f32⟩
  | .hbm, ⟨5, _⟩ => ⟨S2048x2048, .f32⟩
  | .hbm, ⟨6, _⟩ => ⟨S16384x20480, .f32⟩
  | .hbm, ⟨7, _⟩ => ⟨S16384x6144, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S2x2048, .f32⟩
  | .hbm, ⟨13, _⟩ => ⟨S16384x2048, .f32⟩
  | .hbm, ⟨14, _⟩ => ⟨S16386x2048, .f32⟩
  | .hbm, ⟨15, _⟩ => ⟨S16384x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x4096, .f32⟩
  | .hbm, ⟨38, _⟩ => ⟨S16384x2048, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S_, .f32⟩
  | .hbm, ⟨46, _⟩ => ⟨S16384x4096, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_0 : Ref sig .tc := ⟨.hbm, 45, rfl⟩
abbrev main_v38 : Ref sig .tc := ⟨.hbm, 46, rfl⟩
abbrev main_v39 : Ref sig .tc := ⟨.hbm, 47, rfl⟩
abbrev main_cst_1 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel3.lean ====
abbrev S16384x2048 : Shape := ⟨2, ![16384, 2048]⟩
abbrev S2048x20544 : Shape := ⟨2, ![2048, 20544]⟩
abbrev S20544x2048 : Shape := ⟨2, ![20544, 2048]⟩
abbrev S16384x20480 : Shape := ⟨2, ![16384, 20480]⟩
abbrev S2048x2048 : Shape := ⟨2, ![2048, 2048]⟩
abbrev S1024x2048 : Shape := ⟨2, ![1024, 2048]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x20544, .f32⟩
  | .hbm, ⟨2, _⟩ => ⟨S20544x2048, .f32⟩
  | .hbm, ⟨3, _⟩ => ⟨S16384x20480, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  let c10_i32 : BitVec 32 := 10#32
  let v1 : BitVec 1 := Scalar.cmpi .sge arg0 c10_i32
  let c64_i32 : BitVec 32 := 64#32
  let c0_i32 : BitVec 32 := 0#32
  let v2 : BitVec 32 := Scalar.select v1 c64_i32 c0_i32
  let v3 : BitVec 32 := Scalar.addi v0 v2
  v3
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c10_i32 : BitVec 32 := 10#32
  let v1 : BitVec 1 := Scalar.cmpi .sge arg0 c10_i32
  let c64_i32 : BitVec 32 := 64#32
  let c0_i32 : BitVec 32 := 0#32
  let v2 : BitVec 32 := Scalar.select v1 c64_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x20544 : Shape := ⟨2, ![2048, 20544]⟩
abbrev S16384x20544 : Shape := ⟨2, ![16384, 20544]⟩
abbrev S16384x4096 : Shape := ⟨2, ![16384, 4096]⟩
abbrev S_ : Shape := ⟨0, ![]⟩
abbrev S16384x6144 : Shape := ⟨2, ![16384, 6144]⟩
abbrev S16384x10240 : Shape := ⟨2, ![16384, 10240]⟩
abbrev S16384x20480 : Shape := ⟨2, ![16384, 20480]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x20544, .f32⟩
  | .hbm, ⟨2, _⟩ => ⟨S16384x2048, .f32⟩
  | .hbm, ⟨3, _⟩ => ⟨S16384x20544, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x6144, .f32⟩
  | .hbm, ⟨15, _⟩ => ⟨S16384x10240, .f32⟩
  | .hbm, ⟨16, _⟩ => ⟨S16384x20480, .f32⟩
  | .hbm, ⟨17, _⟩ => ⟨S16384x20480, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel4.lean ====
abbrev S288 : Shape := ⟨1, ![288]⟩
abbrev S1 : Shape := ⟨1, ![1]⟩
abbrev S36864x2048 : Shape := ⟨2, ![36864, 2048]⟩
abbrev S32x2048x2048 : Shape := ⟨3, ![32, 2048, 2048]⟩
abbrev S32x2048 : Shape := ⟨2, ![32, 2048]⟩
abbrev S_ : Shape := ⟨0, ![]⟩
abbrev S288x1 : Shape := ⟨2, ![288, 1]⟩
abbrev S32x1x2048 : Shape := ⟨3, ![32, 1, 2048]⟩
abbrev S73728x2048 : Shape := ⟨2, ![73728, 2048]⟩
abbrev S128x2048 : Shape := ⟨2, ![128, 2048]⟩
abbrev S1x2048x2048 : Shape := ⟨3, ![1, 2048, 2048]⟩
abbrev S1x1x2048 : Shape := ⟨3, ![1, 1, 2048]⟩
abbrev S256x2048 : Shape := ⟨2, ![256, 2048]⟩
abbrev S2048x2048 : Shape := ⟨2, ![2048, 2048]⟩
abbrev S1x2048 : Shape := ⟨2, ![1, 2048]⟩

abbrev nBuf : Space → Nat
  | .hbm => 19
  | .vmem => 9
  | .smem => 3
  | _ => 0

abbrev bufTy : (tb : Table) → Fin (tcTables nBuf tb) → BufTy
  | .hbm, ⟨0, _⟩ => ⟨S36864x2048, .i32⟩
  | .hbm, ⟨1, _⟩ => ⟨S32x2048x2048, .f32⟩
  | .hbm, ⟨2, _⟩ => ⟨S32x2048, .f32⟩
  | .hbm, ⟨3, _⟩ => ⟨S288, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S288, .i32⟩
  | .hbm, ⟨8, _⟩ => ⟨S288, .i32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S32x1x2048, .f32⟩
  | .hbm, ⟨18, _⟩ => ⟨S73728x2048, .f32⟩
  | .local _ .vmem, ⟨0, _⟩ => ⟨S128x2048, .i32⟩
  | .local _ .vmem, ⟨1, _⟩ => ⟨S128x2048, .i32⟩
  | .local _ .vmem, ⟨2, _⟩ => ⟨S1x2048x2048, .f32⟩
  | .local _ .vmem, ⟨3, _⟩ => ⟨S1x2048x2048, .f32⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | .local _ .vmem, ⟨8, _⟩ => ⟨S2048x2048, .bf16⟩
  | .local _ .smem, ⟨0, _⟩ => ⟨S288, .i32⟩
  | .local _ .smem, ⟨1, _⟩ => ⟨S1, .i32⟩
  | .local _ .smem, ⟨2, _⟩ => ⟨S288, .i32⟩
  | _, _ => ⟨S36864x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_v13 : Ref sig .tc := ⟨.hbm, 18, rfl⟩
abbrev main_arg0 : Ref sig .tc := ⟨.smem, 0, rfl⟩
abbrev main_arg1 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 288], ![false, false]⟩

abbrev pre0 : Pipeline.Prefetch sig := ⟨3, ![main_arg0.idx, main_arg1.idx, main_v11.idx], fun | 0 => main_arg0.names | 1 => main_arg1.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S288 : Shape := ⟨1, ![288]⟩
abbrev S1 : Shape := ⟨1, ![1]⟩
abbrev S36864x2048 : Shape := ⟨2, ![36864, 2048]⟩
abbrev S32x2048x2048 : Shape := ⟨3, ![32, 2048, 2048]⟩
abbrev S32x2048 : Shape := ⟨2, ![32, 2048]⟩
abbrev S36864x2048x2 : Shape := ⟨3, ![36864, 2048, 2]⟩
abbrev S36864x2x2048 : Shape := ⟨3, ![36864, 2, 2048]⟩
abbrev S288x256x2048 : Shape := ⟨3, ![288, 256, 2048]⟩
abbrev S_ : Shape := ⟨0, ![]⟩
abbrev S288x1 : Shape := ⟨2, ![288, 1]⟩
abbrev S288x2048x2048 : Shape := ⟨3, ![288, 2048, 2048]⟩
abbrev S288x2048 : Shape := ⟨2, ![288, 2048]⟩
abbrev S288x1x2048 : Shape := ⟨3, ![288, 1, 2048]⟩
abbrev S288x1x1 : Shape := ⟨3, ![288, 1, 1]⟩
abbrev S73728x2048 : Shape := ⟨2, ![73728, 2048]⟩

abbrev nBuf : Space → Nat
  | .hbm => 42
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S36864x2048, .i32⟩
  | .hbm, ⟨3, _⟩ => ⟨S32x2048x2048, .f32⟩
  | .hbm, ⟨4, _⟩ => ⟨S32x2048, .f32⟩
  | .hbm, ⟨5, _⟩ => ⟨S36864x2048x2, .bf16⟩
  | .hbm, ⟨6, _⟩ => ⟨S36864x2x2048, .bf16⟩
  | .hbm, ⟨7, _⟩ => ⟨S36864x2x2048, .f32⟩
  | .hbm, ⟨8, _⟩ => ⟨S288x256x2048, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x2048x2048, .f32⟩
  | .hbm, ⟨18, _⟩ => ⟨S288x256x2048, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x2048, .f32⟩
  | .hbm, ⟨28, _⟩ => ⟨S288x1x2048, .f32⟩
  | .hbm, ⟨29, _⟩ => ⟨S288x256x2048, .f32⟩
  | .hbm, ⟨30, _⟩ => ⟨S288x256x2048, .f32⟩
  | .hbm, ⟨31, _⟩ => ⟨S288, .i32⟩
  | .hbm, ⟨32, _⟩ => ⟨S_, .i32⟩
  | .hbm, ⟨33, _⟩ => ⟨S288, .i32⟩
  | .hbm, ⟨34, _⟩ => ⟨S288, .i1⟩
  | .hbm, ⟨35, _⟩ => ⟨S288x1x1, .i1⟩
  | .hbm, ⟨36, _⟩ => ⟨S_, .f32⟩
  | .hbm, ⟨37, _⟩ => ⟨S_, .f32⟩
  | .hbm, ⟨38, _⟩ => ⟨S288x256x2048, .i1⟩
  | .hbm, ⟨39, _⟩ => ⟨S288x256x2048, .f32⟩
  | .hbm, ⟨40, _⟩ => ⟨S288x256x2048, .f32⟩
  | .hbm, ⟨41, _⟩ => ⟨S73728x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel5.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x4096 : Shape := ⟨2, ![32, 4096]⟩
abbrev S_ : Shape := ⟨0, ![]⟩
abbrev S288x1 : Shape := ⟨2, ![288, 1]⟩
abbrev S32x1x4096 : Shape := ⟨3, ![32, 1, 4096]⟩
abbrev S73728x2048 : Shape := ⟨2, ![73728, 2048]⟩
abbrev S256x1024 : Shape := ⟨2, ![256, 1024]⟩
abbrev S1x2048x1024 : Shape := ⟨3, ![1, 2048, 1024]⟩
abbrev S1x1x1024 : Shape := ⟨3, ![1, 1, 1024]⟩
abbrev S2048x1024 : Shape := ⟨2, ![2048, 1024]⟩
abbrev S256x2048 : Shape := ⟨2, ![256, 2048]⟩
abbrev S1x1024 : Shape := ⟨2, ![1, 1024]⟩

abbrev nBuf : Space → Nat
  | .hbm => 19
  | .vmem => 14
  | .smem => 3
  | _ => 0

abbrev bufTy : (tb : Table) → Fin (tcTables nBuf tb) → BufTy
  | .hbm, ⟨0, _⟩ => ⟨S73728x1024, .i32⟩
  | .hbm, ⟨1, _⟩ => ⟨S32x2048x4096, .f32⟩
  | .hbm, ⟨2, _⟩ => ⟨S32x4096, .f32⟩
  | .hbm, ⟨3, _⟩ => ⟨S288, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S288, .i32⟩
  | .hbm, ⟨8, _⟩ => ⟨S288, .i32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S32x1x4096, .f32⟩
  | .hbm, ⟨18, _⟩ => ⟨S73728x2048, .bf16⟩
  | .local _ .vmem, ⟨0, _⟩ => ⟨S256x1024, .i32⟩
  | .local _ .vmem, ⟨1, _⟩ => ⟨S256x1024, .i32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | .local _ .smem, ⟨0, _⟩ => ⟨S288, .i32⟩
  | .local _ .smem, ⟨1, _⟩ => ⟨S1, .i32⟩
  | .local _ .smem, ⟨2, _⟩ => ⟨S288, .i32⟩
  | _, _ => ⟨S73728x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_v13 : Ref sig .tc := ⟨.hbm, 18, rfl⟩
abbrev main_arg0 : Ref sig .tc := ⟨.smem, 0, rfl⟩
abbrev main_arg1 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 288], ![false, false]⟩

abbrev pre0 : Pipeline.Prefetch sig := ⟨3, ![main_arg0.idx, main_arg1.idx, main_v11.idx], fun | 0 => main_arg0.names | 1 => main_arg1.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x4096 : Shape := ⟨2, ![32, 4096]⟩
abbrev S73728x1024x2 : Shape := ⟨3, ![73728, 1024, 2]⟩
abbrev S73728x2x1024 : Shape := ⟨3, ![73728, 2, 1024]⟩
abbrev S288x256x2048 : Shape := ⟨3, ![288, 256, 2048]⟩
abbrev S_ : Shape := ⟨0, ![]⟩
abbrev S288x1 : Shape := ⟨2, ![288, 1]⟩
abbrev S288x2048x4096 : Shape := ⟨3, ![288, 2048, 4096]⟩
abbrev S288x256x4096 : Shape := ⟨3, ![288, 256, 4096]⟩
abbrev S288x4096 : Shape := ⟨2, ![288, 4096]⟩
abbrev S288x1x4096 : Shape := ⟨3, ![288, 1, 4096]⟩
abbrev S288x1x1 : Shape := ⟨3, ![288, 1, 1]⟩
abbrev S73728x2048 : Shape := ⟨2, ![73728, 2048]⟩

abbrev nBuf : Space → Nat
  | .hbm => 72
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .i32⟩
  | .hbm, ⟨3, _⟩ => ⟨S32x2048x4096, .f32⟩
  | .hbm, ⟨4, _⟩ => ⟨S32x4096, .f32⟩
  | .hbm, ⟨5, _⟩ => ⟨S73728x1024x2, .bf16⟩
  | .hbm, ⟨6, _⟩ => ⟨S73728x1024x2, .f32⟩
  | .hbm, ⟨7, _⟩ => ⟨S73728x2x1024, .f32⟩
  | .hbm, ⟨8, _⟩ => ⟨S288x256x2048, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x2048x4096, .f32⟩
  | .hbm, ⟨18, _⟩ => ⟨S288x256x4096, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x4096, .f32⟩
  | .hbm, ⟨28, _⟩ => ⟨S288x1x4096, .f32⟩
  | .hbm, ⟨29, _⟩ => ⟨S288x256x4096, .f32⟩
  | .hbm, ⟨30, _⟩ => ⟨S288x256x4096, .f32⟩
  | .hbm, ⟨31, _⟩ => ⟨S288x256x2048, .f32⟩
  | .hbm, ⟨32, _⟩ => ⟨S_, .f32⟩
  | .hbm, ⟨33, _⟩ => ⟨S288x256x2048, .f32⟩
  | .hbm, ⟨34, _⟩ => ⟨S288x256x2048, .f32⟩
  | .hbm, ⟨35, _⟩ => ⟨S288x256x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S288x256x2048, .f32⟩
  | .hbm, ⟨40, _⟩ => ⟨S288x256x2048, .f32⟩
  | .hbm, ⟨41, _⟩ => ⟨S_, .f32⟩
  | .hbm, ⟨42, _⟩ => ⟨S288x256x2048, .f32⟩
  | .hbm, ⟨43, _⟩ => ⟨S288x256x2048, .f32⟩
  | .hbm, ⟨44, _⟩ => ⟨S_, .f32⟩
  | .hbm, ⟨45, _⟩ => ⟨S288x256x2048, .f32⟩
  | .hbm, ⟨46, _⟩ => ⟨S288x256x2048, .f32⟩
  | .hbm, ⟨47, _⟩ => ⟨S288x256x2048, .f32⟩
  | .hbm, ⟨48, _⟩ => ⟨S_, .f32⟩
  | .hbm, ⟨49, _⟩ => ⟨S288x256x2048, .f32⟩
  | .hbm, ⟨50, _⟩ => ⟨S288x256x2048, .f32⟩
  | .hbm, ⟨51, _⟩ => ⟨S288x256x2048, .f32⟩
  | .hbm, ⟨52, _⟩ => ⟨S288x256x2048, .f32⟩
  | .hbm, ⟨53, _⟩ => ⟨S_, .f32⟩
  | .hbm, ⟨54, _⟩ => ⟨S288x256x2048, .f32⟩
  | .hbm, ⟨55, _⟩ => ⟨S288x256x2048, .f32⟩
  | .hbm, ⟨56, _⟩ => ⟨S_, .f32⟩
  | .hbm, ⟨57, _⟩ => ⟨S288x256x2048, .f32⟩
  | .hbm, ⟨58, _⟩ => ⟨S288x256x2048, .f32⟩
  | .hbm, ⟨59, _⟩ => ⟨S288x256x2048, .f32⟩
  | .hbm, ⟨60, _⟩ => ⟨S288, .i32⟩
  | .hbm, ⟨61, _⟩ => ⟨S_, .i32⟩
  | .hbm, ⟨62, _⟩ => ⟨S288, .i32⟩
  | .hbm, ⟨63, _⟩ => ⟨S288, .i1⟩
  | .hbm, ⟨64, _⟩ => ⟨S288x1x1, .i1⟩
  | .hbm, ⟨65, _⟩ => ⟨S_, .f32⟩
  | .hbm, ⟨66, _⟩ => ⟨S_, .f32⟩
  | .hbm, ⟨67, _⟩ => ⟨S288x256x2048, .i1⟩
  | .hbm, ⟨68, _⟩ => ⟨S288x256x2048, .f32⟩
  | .hbm, ⟨69, _⟩ => ⟨S288x256x2048, .f32⟩
  | .hbm, ⟨70, _⟩ => ⟨S288x256x2048, .bf16⟩
  | .hbm, ⟨71, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== Proof.SsdRunA.lean ====
module

public import proofs.«01_k».proof.Proof.Gen.KernelIdeal.Frame.Runs

@[expose] public section

-- membership in a rectangle of production extents (`View.cover_of_tiled`): the elaborator's structural look
-- recurses once per coordinate of the long axes
set_option maxRecDepth 16384

/-! The whole-body run of the recurrence call, first grid point. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces that the recurrence call's body leaves in its output block and in its four scratch buffers at the first grid point, with the
    proof that, on whole staging buffers, the body runs to its end leaving the inputs as they were and those pieces written. -/
noncomputable def kernelRun0_A (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S64x256 .f32) (harg6 : arg6.IsWhole) (arg7 : Memref sig .tc .vmem S80x1536 .bf16) (harg7 : arg7.IsWhole) (arg8 : Memref sig .tc .vmem S4x4096 .f32) (harg8 : arg8.IsWhole) (arg9 : Memref sig .tc .vmem S4x1024 .f32) (harg9 : arg9.IsWhole) (arg10 : Memref sig .tc .vmem S4x1024 .f32) (harg10 : arg10.IsWhole) (arg11 : Memref sig .tc .vmem S1x4096 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S1x4096 .f32) (harg16 : arg16.IsWhole) (arg17 : Memref sig .tc .vmem S1x4096 .f32) (harg17 : arg17.IsWhole) (arg18 : Memref sig .tc .vmem S256x4096 .bf16) (harg18 : arg18.IsWhole) (arg19 : Memref sig .tc .vmem S8x128x512 .f32) (harg19 : arg19.IsWhole) (arg20 : Memref sig .tc .vmem S264x4096 .f32) (harg20 : arg20.IsWhole) (arg21 : Memref sig .tc .vmem S264x1024 .f32) (harg21 : arg21.IsWhole) (arg22 : Memref sig .tc .vmem S264x1024 .f32) (harg22 : arg22.IsWhole) (hc0 : cond0_0 i)
    (x0 : Vec F S256x4096 .bf16) (x1 : Vec F S256x4096 .bf16) (x2 : Vec F S256x1024 .bf16) (x3 : Vec F S256x1024 .bf16) (x4 : Vec F S64x256 .f32) (x5 : Vec F S80x1536 .bf16) (x6 : Vec F S4x4096 .f32) (x7 : Vec F S4x1024 .f32) (x8 : Vec F S4x1024 .f32) (x9 : Vec F S1x4096 .f32) (x10 : Vec F S1x1024 .f32) (x11 : Vec F S1x1024 .f32) (x12 : Vec F S64x1 .f32) (x13 : Vec F S64x1 .f32) (x14 : Vec F S1x4096 .f32) (x15 : Vec F S1x4096 .f32) :
    Σ' (L16 : List (View.Piece (Elt F) S256x4096 .bf16)), Σ' (LS0 : List (View.Piece (Elt F) S8x128x512 .f32)), Σ' (LS1 : List (View.Piece (Elt F) S264x4096 .f32)), Σ' (LS2 : List (View.Piece (Elt F) S264x1024 .f32)), { LS3 : List (View.Piece (Elt F) S264x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3)) -∗ K ⟨⟩))
          ⊢ wp frame (wpE (defs₀ (F := F)) Variants.none c none) E (cc0_ssd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    simp only [cc0_ssd_eq_skeleton]; unfold cc0_ssd_skel
    simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [HS0]; · iexists _; iexact HS0
    isplitl [HS1]; · iexists _; iexact HS1
    isplitl [HS2]; · iexists _; iexact HS2
    iexists _; iexact HS3

end Cert.KernelIdeal.Gen

end
-- ==== Proof.SsdRunB.lean ====
module

public import proofs.«01_k».proof.Proof.SsdRunA

@[expose] public section

-- membership in a rectangle of production extents (`View.cover_of_tiled`): the elaborator's structural look
-- recurses once per coordinate of the long axes
set_option maxRecDepth 16384

/-! The whole-body run of the recurrence call, later grid points. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces that the recurrence call's body leaves in its output block and in its four scratch buffers at every grid point after the first, with the
    proof that, on whole staging buffers, the body runs to its end leaving the inputs as they were and those pieces written. -/
noncomputable def kernelRun0_B (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S64x256 .f32) (harg6 : arg6.IsWhole) (arg7 : Memref sig .tc .vmem S80x1536 .bf16) (harg7 : arg7.IsWhole) (arg8 : Memref sig .tc .vmem S4x4096 .f32) (harg8 : arg8.IsWhole) (arg9 : Memref sig .tc .vmem S4x1024 .f32) (harg9 : arg9.IsWhole) (arg10 : Memref sig .tc .vmem S4x1024 .f32) (harg10 : arg10.IsWhole) (arg11 : Memref sig .tc .vmem S1x4096 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S1x4096 .f32) (harg16 : arg16.IsWhole) (arg17 : Memref sig .tc .vmem S1x4096 .f32) (harg17 : arg17.IsWhole) (arg18 : Memref sig .tc .vmem S256x4096 .bf16) (harg18 : arg18.IsWhole) (arg19 : Memref sig .tc .vmem S8x128x512 .f32) (harg19 : arg19.IsWhole) (arg20 : Memref sig .tc .vmem S264x4096 .f32) (harg20 : arg20.IsWhole) (arg21 : Memref sig .tc .vmem S264x1024 .f32) (harg21 : arg21.IsWhole) (arg22 : Memref sig .tc .vmem S264x1024 .f32) (harg22 : arg22.IsWhole) (hc0 : ¬cond0_0 i)
    (x0 : Vec F S256x4096 .bf16) (x1 : Vec F S256x4096 .bf16) (x2 : Vec F S256x1024 .bf16) (x3 : Vec F S256x1024 .bf16) (x4 : Vec F S64x256 .f32) (x5 : Vec F S80x1536 .bf16) (x6 : Vec F S4x4096 .f32) (x7 : Vec F S4x1024 .f32) (x8 : Vec F S4x1024 .f32) (x9 : Vec F S1x4096 .f32) (x10 : Vec F S1x1024 .f32) (x11 : Vec F S1x1024 .f32) (x12 : Vec F S64x1 .f32) (x13 : Vec F S64x1 .f32) (x14 : Vec F S1x4096 .f32) (x15 : Vec F S1x4096 .f32) (xs0 : Vec F S8x128x512 .f32) (xs1 : Vec F S264x4096 .f32) (xs2 : Vec F S264x1024 .f32) (xs3 : Vec F S264x1024 .f32) :
    Σ' (L16 : List (View.Piece (Elt F) S256x4096 .bf16)), Σ' (LS0 : List (View.Piece (Elt F) S8x128x512 .f32)), Σ' (LS1 : List (View.Piece (Elt F) S264x4096 .f32)), Σ' (LS2 : List (View.Piece (Elt F) S264x1024 .f32)), { LS3 : List (View.Piece (Elt F) S264x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare xs0 ∗ owns (c : Thread nD τ) arg20 fullShare xs1 ∗ owns (c : Thread nD τ) arg21 fullShare xs2 ∗ owns (c : Thread nD τ) arg22 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ f, arg21.view.loc (c : Thread nD τ) ↦[arg21.view.set]{fullShare} arg21.view.writes (Elt F) f LS2) ∗ (∃ f, arg22.view.loc (c : Thread nD τ) ↦[arg22.view.set]{fullShare} arg22.view.writes (Elt F) f LS3)) -∗ K ⟨⟩))
          ⊢ wp frame (wpE (defs₀ (F := F)) Variants.none c none) E (cc0_ssd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hfs0; obtain rfl := harg20.eq_unread hfs1; obtain rfl := harg21.eq_unread hfs2; obtain rfl := harg22.eq_unread hfs3
    simp only [cc0_ssd_eq_skeleton]; unfold cc0_ssd_skel
    simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [HS0]; · iexists _; iexact HS0
    isplitl [HS1]; · iexists _; iexact HS1
    isplitl [HS2]; · iexists _; iexact HS2
    iexists _; iexact HS3

end Cert.KernelIdeal.Gen

end
-- ==== Proof.SsdFrame.lean ====
module

public import proofs.«01_k».proof.Proof.SsdRunB
public import Idealize.ShloMosaic.Lib.Claim

@[expose] public section

-- membership in a rectangle of production extents (`View.cover_of_tiled`): the elaborator's structural look
-- recurses once per coordinate of the long axes
set_option maxRecDepth 16384

/-! The frame of the recurrence call over its whole-body runs. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section CaseA

variable (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S64x256 .f32) (harg6 : arg6.IsWhole) (arg7 : Memref sig .tc .vmem S80x1536 .bf16) (harg7 : arg7.IsWhole) (arg8 : Memref sig .tc .vmem S4x4096 .f32) (harg8 : arg8.IsWhole) (arg9 : Memref sig .tc .vmem S4x1024 .f32) (harg9 : arg9.IsWhole) (arg10 : Memref sig .tc .vmem S4x1024 .f32) (harg10 : arg10.IsWhole) (arg11 : Memref sig .tc .vmem S1x4096 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S1x4096 .f32) (harg16 : arg16.IsWhole) (arg17 : Memref sig .tc .vmem S1x4096 .f32) (harg17 : arg17.IsWhole) (arg18 : Memref sig .tc .vmem S256x4096 .bf16) (harg18 : arg18.IsWhole) (arg19 : Memref sig .tc .vmem S8x128x512 .f32) (harg19 : arg19.IsWhole) (arg20 : Memref sig .tc .vmem S264x4096 .f32) (harg20 : arg20.IsWhole) (arg21 : Memref sig .tc .vmem S264x1024 .f32) (harg21 : arg21.IsWhole) (arg22 : Memref sig .tc .vmem S264x1024 .f32) (harg22 : arg22.IsWhole) (hc0 : cond0_0 i)
    (x0 : Vec F S256x4096 .bf16) (x1 : Vec F S256x4096 .bf16) (x2 : Vec F S256x1024 .bf16) (x3 : Vec F S256x1024 .bf16) (x4 : Vec F S64x256 .f32) (x5 : Vec F S80x1536 .bf16) (x6 : Vec F S4x4096 .f32) (x7 : Vec F S4x1024 .f32) (x8 : Vec F S4x1024 .f32) (x9 : Vec F S1x4096 .f32) (x10 : Vec F S1x1024 .f32) (x11 : Vec F S1x1024 .f32) (x12 : Vec F S64x1 .f32) (x13 : Vec F S64x1 .f32) (x14 : Vec F S1x4096 .f32) (x15 : Vec F S1x4096 .f32)

/-- Case A's pieces for output 16 tile its block (8 stores of `S256x512`, checked by the kernel's evaluation: Lib/Ring.lean `Piece.tiledL`, linear in the pieces, through a loop's `@[irreducible]` trip theorem too), so they cover it. -/
theorem cover0_A_16 (y : S256x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).1 S256x512.size (by sl_kernel_rfl) y

/-- What case A leaves in output 16's staging buffer: its pieces read back over junk. -/
def out0_A_16 : Vec F S256x4096 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).1)

/-- Case A's pieces for scratch `arg19`, which the kernel carries between points, cover it: one of them a store of the WHOLE buffer (Lib/Ring.lean `sl_whole_mem`). -/
theorem scover0_A_0 (y : S8x128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.1 (by sl_whole_mem) y

/-- What case A leaves in scratch `arg19`: its pieces read back over junk. -/
def sout0_A_0 : Vec F S8x128x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.1)

/-- Case A's pieces for scratch `arg20`, which the kernel carries between points, cover it: 3 pieces (stores and landed copies) of several sizes (`S256x4096`, `S8x4096`) tiling it when cut into blocks of `![8, 4096]` (Lib/Ring.lean `Piece.tiledBy`). -/
theorem scover0_A_1 (y : S264x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.1 ![8, 4096] (by sl_kernel_rfl) y

/-- What case A leaves in scratch `arg20`: its pieces read back over junk. -/
def sout0_A_1 : Vec F S264x4096 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.1)

/-- Case A's pieces for scratch `arg21`, which the kernel carries between points, cover it: 3 pieces (stores and landed copies) of several sizes (`S256x1024`, `S8x1024`) tiling it when cut into blocks of `![8, 1024]` (Lib/Ring.lean `Piece.tiledBy`). -/
theorem scover0_A_2 (y : S264x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.2.1 ![8, 1024] (by sl_kernel_rfl) y

/-- What case A leaves in scratch `arg21`: its pieces read back over junk. -/
def sout0_A_2 : Vec F S264x1024 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.2.1)

/-- Case A's pieces for scratch `arg22`, which the kernel carries between points, cover it: 3 pieces (stores and landed copies) of several sizes (`S256x1024`, `S8x1024`) tiling it when cut into blocks of `![8, 1024]` (Lib/Ring.lean `Piece.tiledBy`). -/
theorem scover0_A_3 (y : S264x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.2.2.1 ![8, 1024] (by sl_kernel_rfl) y

/-- What case A leaves in scratch `arg22`: its pieces read back over junk. -/
def sout0_A_3 : Vec F S264x1024 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.2.2.1)

end CaseA

section CaseB

variable (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S64x256 .f32) (harg6 : arg6.IsWhole) (arg7 : Memref sig .tc .vmem S80x1536 .bf16) (harg7 : arg7.IsWhole) (arg8 : Memref sig .tc .vmem S4x4096 .f32) (harg8 : arg8.IsWhole) (arg9 : Memref sig .tc .vmem S4x1024 .f32) (harg9 : arg9.IsWhole) (arg10 : Memref sig .tc .vmem S4x1024 .f32) (harg10 : arg10.IsWhole) (arg11 : Memref sig .tc .vmem S1x4096 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S1x4096 .f32) (harg16 : arg16.IsWhole) (arg17 : Memref sig .tc .vmem S1x4096 .f32) (harg17 : arg17.IsWhole) (arg18 : Memref sig .tc .vmem S256x4096 .bf16) (harg18 : arg18.IsWhole) (arg19 : Memref sig .tc .vmem S8x128x512 .f32) (harg19 : arg19.IsWhole) (arg20 : Memref sig .tc .vmem S264x4096 .f32) (harg20 : arg20.IsWhole) (arg21 : Memref sig .tc .vmem S264x1024 .f32) (harg21 : arg21.IsWhole) (arg22 : Memref sig .tc .vmem S264x1024 .f32) (harg22 : arg22.IsWhole) (hc0 : ¬cond0_0 i)
    (x0 : Vec F S256x4096 .bf16) (x1 : Vec F S256x4096 .bf16) (x2 : Vec F S256x1024 .bf16) (x3 : Vec F S256x1024 .bf16) (x4 : Vec F S64x256 .f32) (x5 : Vec F S80x1536 .bf16) (x6 : Vec F S4x4096 .f32) (x7 : Vec F S4x1024 .f32) (x8 : Vec F S4x1024 .f32) (x9 : Vec F S1x4096 .f32) (x10 : Vec F S1x1024 .f32) (x11 : Vec F S1x1024 .f32) (x12 : Vec F S64x1 .f32) (x13 : Vec F S64x1 .f32) (x14 : Vec F S1x4096 .f32) (x15 : Vec F S1x4096 .f32) (xs0 : Vec F S8x128x512 .f32) (xs1 : Vec F S264x4096 .f32) (xs2 : Vec F S264x1024 .f32) (xs3 : Vec F S264x1024 .f32)

/-- Case B's pieces for output 16 tile its block (8 stores of `S256x512`, checked by the kernel's evaluation: Lib/Ring.lean `Piece.tiledL`, linear in the pieces, through a loop's `@[irreducible]` trip theorem too), so they cover it. -/
theorem cover0_B_16 (y : S256x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).1 S256x512.size (by sl_kernel_rfl) y

/-- What case B leaves in output 16's staging buffer: its pieces read back over junk. -/
def out0_B_16 : Vec F S256x4096 .bf16 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).1)

/-- Case B's pieces for scratch `arg19`, which the kernel carries between points, cover it: 8 pieces of `S1x128x512` tiling it (Lib/Ring.lean `Piece.tiledL`). -/
theorem scover0_B_0 (y : S8x128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.1 S1x128x512.size (by sl_kernel_rfl) y

/-- What case B leaves in scratch `arg19`: its pieces read back over junk. -/
def sout0_B_0 : Vec F S8x128x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.1)

/-- Case B's pieces for scratch `arg20`, which the kernel carries between points, cover it: 2 pieces (stores and landed copies) of several sizes (`S256x4096`, `S8x4096`) tiling it when cut into blocks of `![8, 4096]` (Lib/Ring.lean `Piece.tiledBy`). -/
theorem scover0_B_1 (y : S264x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.2.1 ![8, 4096] (by sl_kernel_rfl) y

/-- What case B leaves in scratch `arg20`: its pieces read back over junk. -/
def sout0_B_1 : Vec F S264x4096 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.2.1)

/-- Case B's pieces for scratch `arg21`, which the kernel carries between points, cover it: 2 pieces (stores and landed copies) of several sizes (`S256x1024`, `S8x1024`) tiling it when cut into blocks of `![8, 1024]` (Lib/Ring.lean `Piece.tiledBy`). -/
theorem scover0_B_2 (y : S264x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.2.2.1 ![8, 1024] (by sl_kernel_rfl) y

/-- What case B leaves in scratch `arg21`: its pieces read back over junk. -/
def sout0_B_2 : Vec F S264x1024 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.2.2.1)

/-- Case B's pieces for scratch `arg22`, which the kernel carries between points, cover it: 2 pieces (stores and landed copies) of several sizes (`S256x1024`, `S8x1024`) tiling it when cut into blocks of `![8, 1024]` (Lib/Ring.lean `Piece.tiledBy`). -/
theorem scover0_B_3 (y : S264x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.2.2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.2.2.2.1 ![8, 1024] (by sl_kernel_rfl) y

/-- What case B leaves in scratch `arg22`: its pieces read back over junk. -/
def sout0_B_3 : Vec F S264x1024 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0 xs1 xs2 xs3).2.2.2.2.1)

end CaseB

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x4096 .bf16 × Vec F S8x128x512 .f32 × Vec F S264x4096 .f32 × Vec F S264x1024 .f32 × Vec F S264x1024 .f32
  | 0, hn => (out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (X0_9 m c ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (X0_9 m c ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (X0_9 m c ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (X0_9 m c ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (X0_9 m c ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩))
  | n + 1, hn =>
    if h0 : (n + 1) % 64 = 0 then
      (out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩))
    else
      (out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (X0_9 m c ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 64 = 0) :
    outsAt0 m c t.val t.isLt = (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => X0_6 m c t
    | ⟨7, _⟩ => iblk m c 7 t
    | ⟨8, _⟩ => iblk m c 8 t
    | ⟨9, _⟩ => X0_9 m c t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨_ + 17, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_16 sout0_A_0 sout0_A_1 sout0_A_2 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, ⟨%e16, H16⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_16 sout0_B_0 sout0_B_1 sout0_B_2 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (X0_6 m c t) (iblk m c 7 t) (iblk m c 8 t) (X0_9 m c t) (iblk m c 10 t) (iblk m c 11 t) (iblk m c 12 t) (iblk m c 13 t) (iblk m c 14 t) (iblk m c 15 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, ⟨%e16, H16⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.SsdRef.lean ====
/- What the recurrence's reference leaves unchanged. -/
module

public import proofs.«01_k».proof.Proof.Gen.ReferenceIdeal.Run

@[expose] public section

set_option maxRecDepth 4000

noncomputable section

namespace Cert.ReferenceIdeal.Value

open Idealize.ShloMosaic Idealize.ShloMosaic.TcCoe Idealize.ShloMosaic.StableHlo
open Idealize.SL.Sem
open Cert.ReferenceIdeal.Gen

variable {F : FTy → Type} [FloatOps F]

/-- The references the stretch after the loop writes. -/
abbrev postW : List (Ref sig .tc) := [main_v92, main_v93, main_v94, main_v95, main_v96, main_v97, main_v98, main_v99, main_v100, main_v101, main_v102, main_v103, main_v104, main_v105, main_v106, main_v107, main_v108, main_cst_4, main_v109, main_v110, main_cst_5, main_v111, main_v112, main_cst_6, main_v113, main_v114, main_v115, main_v116, main_v117, main_v118, main_v119, main_v120, main_v121, main_v122]

theorem post_writes : (hostOps0_11 : List (HloOp τ sig (Elt F))).Forall fun op =>
    op.writes ⊆ (postW.map (Proc.devRef (τ := τ) .tc)).toFinset :=
  StableHlo.forall_writes_sub_of_map rfl

/-- Every reference the program writes. -/
abbrev allW : List (Ref sig .tc) :=
  hostOps0_W ++ (hostOps0_1_W ++ (hostOps0_2_W ++ (hostOps0_3_W ++ (hostOps0_4_W ++ (hostOps0_5_W ++ (hostOps0_6_W ++
    (hostOps0_7_W ++ (hostOps0_8_W ++ (hostOps0_9_W ++ (hostOps0_10_W ++ (while0Ops0_W ++ (while0Ops0_1_W ++
      (while0Ops0_2_W ++ (while0Ops0_3_W ++ (while0Ops0_4_W ++ (condOps_W ++ postW))))))))))))))))

variable (m : (ℓ : Loc nD τ sig) → Buf (Elt F) ℓ)

/-- A buffer no operation writes ends as it began. -/
theorem kept (c : Dev nD) (r : Ref sig .tc) (h : r ∉ allW) :
    finalContents condOps preI bodyI postI 256 m c (Proc.devRef .tc r) = m ((c.tc : Thread nD τ).loc r) := by
  obtain ⟨h0, h⟩ := not_or.mp (mt List.mem_append.mpr h)
  obtain ⟨h1, h⟩ := not_or.mp (mt List.mem_append.mpr h)
  obtain ⟨h2, h⟩ := not_or.mp (mt List.mem_append.mpr h)
  obtain ⟨h3, h⟩ := not_or.mp (mt List.mem_append.mpr h)
  obtain ⟨h4, h⟩ := not_or.mp (mt List.mem_append.mpr h)
  obtain ⟨h5, h⟩ := not_or.mp (mt List.mem_append.mpr h)
  obtain ⟨h6, h⟩ := not_or.mp (mt List.mem_append.mpr h)
  obtain ⟨h7, h⟩ := not_or.mp (mt List.mem_append.mpr h)
  obtain ⟨h8, h⟩ := not_or.mp (mt List.mem_append.mpr h)
  obtain ⟨h9, h⟩ := not_or.mp (mt List.mem_append.mpr h)
  obtain ⟨h10, h⟩ := not_or.mp (mt List.mem_append.mpr h)
  obtain ⟨w0, h⟩ := not_or.mp (mt List.mem_append.mpr h)
  obtain ⟨w1, h⟩ := not_or.mp (mt List.mem_append.mpr h)
  obtain ⟨w2, h⟩ := not_or.mp (mt List.mem_append.mpr h)
  obtain ⟨w3, h⟩ := not_or.mp (mt List.mem_append.mpr h)
  obtain ⟨w4, h⟩ := not_or.mp (mt List.mem_append.mpr h)
  obtain ⟨wc, wp⟩ := not_or.mp (mt List.mem_append.mpr h)
  have key : ∀ k, atK m k c (Proc.devRef .tc r) = m ((c.tc : Thread nD τ).loc r) := by
    intro k
    induction k with
    | zero =>
      show entryContents preI m c (Proc.devRef .tc r) = _
      simp only [entryContents, afterL_cons, afterL_nil]
      rw [after_of_writes_sub _ _ hostOps0_10_writes h10, after_of_writes_sub _ _ hostOps0_9_writes h9,
        after_of_writes_sub _ _ hostOps0_8_writes h8, after_of_writes_sub _ _ hostOps0_7_writes h7,
        after_of_writes_sub _ _ hostOps0_6_writes h6, after_of_writes_sub _ _ hostOps0_5_writes h5,
        after_of_writes_sub _ _ hostOps0_4_writes h4, after_of_writes_sub _ _ hostOps0_3_writes h3,
        after_of_writes_sub _ _ hostOps0_2_writes h2, after_of_writes_sub _ _ hostOps0_1_writes h1,
        after_of_writes_sub _ _ hostOps0_writes h0]
    | succ k ih =>
      rw [show atK m (k + 1) c = afterL bodyI (after condOps (atK m k c)) from rfl]
      simp only [afterL_cons, afterL_nil]
      rw [after_of_writes_sub _ _ while0Ops0_4_writes w4, after_of_writes_sub _ _ while0Ops0_3_writes w3,
        after_of_writes_sub _ _ while0Ops0_2_writes w2, after_of_writes_sub _ _ while0Ops0_1_writes w1,
        after_of_writes_sub _ _ while0Ops0_writes w0, after_of_writes_sub _ _ condOps_writes wc]
      exact ih
  show afterL postI (after condOps (atK m 256 c)) _ = _
  simp only [afterL_cons, afterL_nil]
  rw [after_of_writes_sub _ _ post_writes wp, after_of_writes_sub _ _ condOps_writes wc]
  exact key 256

end Cert.ReferenceIdeal.Value

end
-- ==== Proof.Common.lean ====
module

public import Idealize.ShloMosaic.Lib.Pipeline.ValueKit
public import Idealize.ShloMosaic.Lib.Pointwise

@[expose] public section

set_option maxRecDepth 16384

/-! Facts shared by the calls' value proofs: the logistic function in its two spellings, and a row buffer read back
after being written in pieces of whole rows. -/

noncomputable section

open Idealize.ShloMosaic

namespace Cert.Common

/-- The f32 constant one half is the real number one half. -/
theorem half_eq : Ideal.ofBits .f32 0x3F000000#32 = ((1 / 2 : ℝ) : EReal) := by
  simp [Ideal.ofBits, Ideal.ieee, -EReal.coe_mul]
  norm_num

/-- Equal factors have equal products. -/
theorem mul_congr {a b a' b' : EReal} (ha : a = a') (hb : b = b') : a * b = a' * b' := by rw [ha, hb]

/-- The logistic function, `1 / (1 + exp (-v))`, on the extended reals. -/
def lgst (v : EReal) : EReal := Ideal.div 1 (1 + Ideal.exp (-v))

/-- `0.5 * tanh (0.5 * v) + 0.5` is the logistic function of `v`, at every extended real. -/
theorem half_tanh (v : EReal) :
    Ideal.ofBits .f32 0x3F000000#32 * Ideal.tanh (Ideal.ofBits .f32 0x3F000000#32 * v) + Ideal.ofBits .f32 0x3F000000#32
      = lgst v := by
  rw [half_eq, lgst]
  induction v with
  | bot =>
    rw [EReal.coe_mul_bot_of_pos (by norm_num)]
    have ht : (1 : EReal) + ⊤ = ⊤ := EReal.coe_add_top 1
    simp [Ideal.div, ht]
    norm_cast
    norm_num
  | top =>
    rw [EReal.coe_mul_top_of_pos (by norm_num)]
    simp [Ideal.div]
    norm_cast
    norm_num
  | coe r =>
    rw [← EReal.coe_mul, Ideal.tanh_coe, ← EReal.coe_neg, Ideal.exp_coe]
    rw [show (1 : EReal) + (Real.exp (-r) : EReal) = ((1 + Real.exp (-r) : ℝ) : EReal) by norm_cast]
    rw [Ideal.div_coe (by positivity), one_mul, ← EReal.coe_mul, ← EReal.coe_add]
    congr 1
    rw [Real.tanh_eq_sinh_div_cosh, Real.sinh_eq, Real.cosh_eq]
    have h1 : Real.exp (1 / 2 * r) = Real.exp (1 / 2 * r) := rfl
    have h2 : Real.exp (-r) = Real.exp (-(1 / 2 * r)) * Real.exp (-(1 / 2 * r)) := by
      rw [← Real.exp_add]; congr 1; ring
    have h3 : Real.exp (1 / 2 * r) * Real.exp (-(1 / 2 * r)) = 1 := by
      rw [← Real.exp_add]; simp
    rw [h2]
    have ha := Real.exp_pos (1 / 2 * r)
    have hb := Real.exp_pos (-(1 / 2 * r))
    generalize Real.exp (1 / 2 * r) = a at *
    generalize Real.exp (-(1 / 2 * r)) = b at *
    field_simp
    nlinarith [h3]

section Rows

variable {Val : EltTy → Type} [∀ e, Nonempty (Val e)] {e : EltTy} {m k n o : ℕ}

/-- A row inside the last written block of rows `o … o + k - 1` reads that block's payload. -/
theorem canon_rows_hit (inb : ∀ a, (![o, 0] : Fin 2 → ℕ) a + (![k, n] : Fin 2 → ℕ) a ≤ (⟨2, ![m, n]⟩ : Shape).size a)
    (w : (⟨2, ![k, n]⟩ : Shape).Idx → Val e) (L : List (View.Piece Val (⟨2, ![m, n]⟩ : Shape) e))
    (y : (⟨2, ![m, n]⟩ : Shape).Idx) (r : Fin k) (l : Fin n) (h0 : (y 0).val = o + r.val) (h1 : (y 1).val = l.val) :
    View.canon ((⟨Rect.unit (s := (⟨2, ![m, n]⟩ : Shape)) ![o, 0] ![k, n] inb, w⟩ : View.Piece Val (⟨2, ![m, n]⟩ : Shape) e) :: L) y
      = w (ix2 r l) := by
  have hy : y = (Rect.unit (s := (⟨2, ![m, n]⟩ : Shape)) ![o, 0] ![k, n] inb).emb (ix2 r l) := by
    funext a; apply Fin.ext; rw [ValueKit.rect_emb_unit_val]
    fin_cases a
    · exact h0
    · simpa using h1
  rw [hy]
  exact View.canon_cons_emb (Val := Val) (Rect.unit (s := (⟨2, ![m, n]⟩ : Shape)) ![o, 0] ![k, n] inb) w L (ix2 r l)

/-- A row outside the last written block of rows reads the earlier writes. -/
theorem canon_rows_miss (inb : ∀ a, (![o, 0] : Fin 2 → ℕ) a + (![k, n] : Fin 2 → ℕ) a ≤ (⟨2, ![m, n]⟩ : Shape).size a)
    (w : (⟨2, ![k, n]⟩ : Shape).Idx → Val e) (L : List (View.Piece Val (⟨2, ![m, n]⟩ : Shape) e))
    (y : (⟨2, ![m, n]⟩ : Shape).Idx) (h : (y 0).val < o ∨ o + k ≤ (y 0).val) :
    View.canon ((⟨Rect.unit (s := (⟨2, ![m, n]⟩ : Shape)) ![o, 0] ![k, n] inb, w⟩ : View.Piece Val (⟨2, ![m, n]⟩ : Shape) e) :: L) y
      = View.canon L y := by
  apply View.canon_cons_of_not_mem
  intro hm
  obtain ⟨x, hx⟩ := LoadRect.exists_idx_of_mem _ hm
  have h0 : (y 0).val = o + (x 0).val := by
    rw [← hx]; exact ValueKit.rect_emb_unit_val _ _ inb x 0
  have h2 : (x 0).val < k := (x 0).isLt
  omega

end Rows

end Cert.Common

end
-- ==== Proof.Mix.lean ====
module

public import proofs.«01_k».proof.Proof.Gen.Kernel2Ideal.Value
public import proofs.«01_k».proof.Proof.Common

@[expose] public section

set_option maxRecDepth 16384

/-! The result array of the branch-mixing call, as one function of its arguments. -/

noncomputable section

open Idealize.ShloMosaic Idealize.ShloMosaic.TcCoe Idealize.SL.Sem
open Idealize.ShloMosaic.Pipeline (Dat)
open Cert.Common

namespace Cert.Kernel2Ideal.Value

open Cert.Kernel2Ideal Cert.Kernel2Ideal.Gen

/-- The product of the two convolution inputs at row `r - d`, zero before the first row. -/
def cvAt (p : S16384x20480.Idx → EReal) (d : ℕ) (r : Fin 16384) (k : Fin 2048) : EReal :=
  if h : d ≤ r.val then
    p (ix2 ⟨r.val - d, by omega⟩ ⟨12288 + k.val, by omega⟩) * p (ix2 ⟨r.val - d, by omega⟩ ⟨14336 + k.val, by omega⟩)
  else 0

/-- The mixed branches at row `r` and column `l`: the gated state-space projection plus the gated short-convolution
projection, each gate the logistic function of a biased input column. -/
def mixAt (y : S16384x4096.Idx → EReal) (p : S16384x20480.Idx → EReal) (b : S4096.Idx → EReal) (w : S3x2048.Idx → EReal)
    (wy : S4096x2048.Idx → EReal) (wc : S2048x2048.Idx → EReal) (r : Fin 16384) (l : Fin 2048) : EReal :=
  lgst (p (ix2 r ⟨16384 + l.val, by omega⟩) + b (ix1 ⟨l.val, by omega⟩)) * (∑ k : Fin 4096, y (ix2 r k) * wy (ix2 k l))
  + lgst (p (ix2 r ⟨18432 + l.val, by omega⟩) + b (ix1 ⟨2048 + l.val, by omega⟩))
    * (∑ k : Fin 2048, p (ix2 r ⟨10240 + k.val, by omega⟩)
        * (w (ix2 2 k) * cvAt p 0 r k + w (ix2 0 k) * cvAt p 2 r k + w (ix2 1 k) * cvAt p 1 r k) * wc (ix2 k l))

variable (m : (ℓ : Loc nD τ sig) → Buf (Elt Ideal) ℓ)

/-- The block index of every window at every grid point. -/
theorem idx_val : ∀ t : Fin cfg0.N, win0_0.index t = ![t.val, 0] ∧ win0_1.index t = ![t.val, 5] ∧ win0_2.index t = ![t.val, 6]
    ∧ win0_3.index t = ![t.val, 7] ∧ win0_4.index t = ![32 * t.val - 1, 6] ∧ win0_5.index t = ![32 * t.val - 1, 7]
    ∧ win0_6.index t = ![t.val, 8] ∧ win0_7.index t = ![t.val, 9] ∧ win0_8.index t = ![0, 0] ∧ win0_9.index t = ![0, 1]
    ∧ win0_10.index t = ![0, 0] ∧ win0_11.index t = ![0, 0] ∧ win0_12.index t = ![0, 0] ∧ win0_13.index t = ![t.val, 0]
    ∧ (grid0.coords t 0).val = t.val ∧ t.val < 64 :=
  (by decide +kernel : ∀ t : Fin grid0.N, _)

/-- What grid point `t` leaves in the output's staging buffer, at block row `r` and column `l`, is the mixed branches at
row `256 t + r`. -/
theorem point (c : Dev nD) (t : Fin cfg0.N) (r : Fin 256) (l : Fin 2048) (R : Fin 16384) (hR : R.val = 256 * t.val + r.val) :
    outsAt0 m c t (ix2 r l)
      = mixAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) R l := by
  have hi := idx_val t
  rw [outsAt0]
  frame_out
  simp only [View.readCov_eq_canon']
  pointwise [k0_pay1, k0_pay2, k0_pay3, k0_pay4, k0_pay5, k0_pay6, k0_pay7, k0_pay8, k0_pay9]
  simp only [half_tanh]
  unfold mixAt
  refine congrArg₂ (· + ·) ?_ (congrArg₂ (· * ·) ?_ (Finset.sum_congr rfl fun x _ => ?_))
  · blk_point [iblk, V, hi]
  · blk_point [iblk, V, hi]
  · refine congrArg₂ (· * ·) (congrArg₂ (· * ·) ?_ (congrArg₂ (· + ·) (congrArg₂ (· + ·) (congrArg₂ (· * ·) ?_ ?_)
      (congrArg₂ (· * ·) ?_ ?_)) (congrArg₂ (· * ·) ?_ ?_))) ?_
    · blk_point [iblk, V, hi]
    · blk_point [iblk, V, hi]
    · rw [cvAt, dif_pos (by omega)]
      blk_point [iblk, V, hi]
    · blk_point [iblk, V, hi]
    · by_cases h : r.val < 2
      · rw [Common.canon_rows_miss _ _ _ _ (Or.inl (by show 6 + r.val < 8; omega)),
          Common.canon_rows_hit _ _ _ _ (⟨6 + r.val, by omega⟩ : Fin 8) x (by simp) rfl, hi.2.2.2.2.2.2.2.2.2.2.2.2.2.2.1]
        by_cases h0 : t.val = 0
        · rw [h0, cvAt, dif_neg (by omega)]
          rw [Scalar.select, if_pos (by decide)]
          pointwise
        · have hz : Scalar.cmpi CmpIPredicate.eq (BitVec.ofNat 32 t.val) 0#32 = 0#1 := by
            have hlt := hi.2.2.2.2.2.2.2.2.2.2.2.2.2.2.2
            interval_cases t.val <;> first | rfl | exact absurd rfl h0
          rw [hz, cvAt, dif_pos (by omega)]
          rw [Scalar.select, if_neg (by decide)]
          pointwise
          blk_point [iblk, V, hi]
      · rw [Common.canon_rows_hit _ _ _ _ (⟨r.val - 2, by omega⟩ : Fin 256) x (by show 6 + r.val = 8 + (r.val - 2); omega) rfl,
          cvAt, dif_pos (by omega)]
        pointwise
        blk_point [iblk, V, hi]
    · blk_point [iblk, V, hi]
    · by_cases h : r.val < 1
      · rw [Common.canon_rows_miss _ _ _ _ (Or.inl (by show 7 + r.val < 8; omega)),
          Common.canon_rows_hit _ _ _ _ (⟨7 + r.val, by omega⟩ : Fin 8) x (by simp) rfl, hi.2.2.2.2.2.2.2.2.2.2.2.2.2.2.1]
        by_cases h0 : t.val = 0
        · rw [h0, cvAt, dif_neg (by omega)]
          rw [Scalar.select, if_pos (by decide)]
          pointwise
        · have hz : Scalar.cmpi CmpIPredicate.eq (BitVec.ofNat 32 t.val) 0#32 = 0#1 := by
            have hlt := hi.2.2.2.2.2.2.2.2.2.2.2.2.2.2.2
            interval_cases t.val <;> first | rfl | exact absurd rfl h0
          rw [hz, cvAt, dif_pos (by omega)]
          rw [Scalar.select, if_neg (by decide)]
          pointwise
          blk_point [iblk, V, hi]
      · rw [Common.canon_rows_hit _ _ _ _ (⟨r.val - 1, by omega⟩ : Fin 256) x (by show 7 + r.val = 8 + (r.val - 1); omega) rfl,
          cvAt, dif_pos (by omega)]
        pointwise
        blk_point [iblk, V, hi]
    · blk_point [iblk, V, hi]

/-- The array the call leaves: the mixed branches at every row and column. -/
theorem final (c : Dev nD) : (dats m 0 c).arrAt 13 cfg0.N = fun j =>
    mixAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (j 0) (j 1) := by
  refine (dats m 0 c).arrAt_eq_of_covers 13 _ (by decide +kernel) fun t _ y => ?_
  have hi := idx_val t
  blk_simp
  rw [after0_13]
  idx_vars y
  have e : ((View.whole main_v3).slice (win0_13.rect t)).emb (ix2 y0 y1)
      = ix2 (⟨256 * t.val + y0.val, by omega⟩ : Fin 16384) y1 := by blk_ext [hi]
  rw [e]
  exact point m c t y0 y1 _ rfl

end Cert.Kernel2Ideal.Value
end
-- ==== Proof.MixRef.lean ====
module

public import proofs.«01_k».proof.Proof.Gen.Reference2Ideal.Run
public import proofs.«01_k».proof.Proof.Mix

@[expose] public section

set_option maxRecDepth 16384

/-! The reference of the branch-mixing call computes the same function of its arguments. -/

noncomputable section

open Idealize.ShloMosaic Idealize.ShloMosaic.TcCoe Idealize.SL.Sem
open Cert.Common

namespace Cert.Reference2Ideal.Value

open Cert.Reference2Ideal Cert.Reference2Ideal.Gen

variable (m : (ℓ : Loc nD τ sig) → Buf (Elt Ideal) ℓ)

/-- A sum of three products, in another order. -/
theorem reorder (a b c u v w : EReal) : a * u + b * v + c * w = w * c + u * a + v * b := by
  rw [mul_comm a, mul_comm b, mul_comm c, add_comm (w * c), add_right_comm]

/-- A column of the first convolution input, counted from the start of the branch. -/
theorem col_one (k : Fin 2048) : (⟨12288 + k.val, by omega⟩ : Fin 20480) = ⟨10240 + (2048 + k.val), by omega⟩ :=
  Fin.ext (by simp only; omega)

/-- A column of the second convolution input, counted from the start of the branch. -/
theorem col_two (k : Fin 2048) : (⟨14336 + k.val, by omega⟩ : Fin 20480) = ⟨10240 + (4096 + k.val), by omega⟩ :=
  Fin.ext (by simp only; omega)

/-- The convolution input of the row itself. -/
theorem cvAt_zero (p : S16384x20480.Idx → EReal) (r : Fin 16384) (k : Fin 2048) :
    Cert.Kernel2Ideal.Value.cvAt p 0 r k
      = p (ix2 r ⟨10240 + (2048 + k.val), by omega⟩) * p (ix2 r ⟨10240 + (4096 + k.val), by omega⟩) := by
  rw [Cert.Kernel2Ideal.Value.cvAt, dif_pos (Nat.zero_le _), col_one, col_two]
  rfl

/-- The convolution input `d` rows back, read in the sequence that two zero rows were put before. -/
theorem cvAt_shift (p : S16384x20480.Idx → EReal) (d o : ℕ) (r : Fin 16384) (k : Fin 2048) (h : d + o = 2) :
    Cert.Kernel2Ideal.Value.cvAt p d r k
      = if h : o + r.val < 2 then 0 else p (ix2 ⟨o + r.val - 2, by omega⟩ ⟨10240 + (2048 + k.val), by omega⟩)
          * p (ix2 ⟨o + r.val - 2, by omega⟩ ⟨10240 + (4096 + k.val), by omega⟩) := by
  unfold Cert.Kernel2Ideal.Value.cvAt
  by_cases hd : d ≤ r.val
  · have e : (⟨r.val - d, by omega⟩ : Fin 16384) = ⟨o + r.val - 2, by omega⟩ := Fin.ext (by simp only; omega)
    rw [dif_pos hd, dif_neg (by omega), e, col_one, col_two]
  · rw [dif_neg hd, dif_pos (by omega)]

/-- The reference's result is the mixed branches at every row and column. -/
theorem res_eq (c : Dev nD) : res_main_v47 m c = fun j =>
    Cert.Kernel2Ideal.Value.mixAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (j 0) (j 1) := by
  funext j
  idx_vars j
  show _ = Cert.Kernel2Ideal.Value.mixAt _ _ _ _ _ _ j0 j1
  pointwise [res_main_v47]
  unfold Cert.Kernel2Ideal.Value.mixAt lgst
  refine congrArg₂ (· + ·) rfl (congrArg₂ (· * ·) ?_ (Finset.sum_congr rfl fun x _ =>
    congrArg₂ (· * ·) (congrArg₂ (· * ·) rfl ?_) rfl))
  · have e : (⟨16384 + (2048 + j1.val), by omega⟩ : Fin 20480) = ⟨18432 + j1.val, by omega⟩ := Fin.ext (by simp only; omega)
    rw [e]
  · have c0 := cvAt_zero (m ((c : Thread nD τ).loc main_arg1)) j0 x
    have c1 := cvAt_shift (m ((c : Thread nD τ).loc main_arg1)) 1 1 j0 x rfl
    have c2 := cvAt_shift (m ((c : Thread nD τ).loc main_arg1)) 2 0 j0 x rfl
    rw [c0, c1, c2]
    simp only [Nat.zero_add]
    exact reorder _ _ _ _ _ _

end Cert.Reference2Ideal.Value

end
-- ==== Proof.Inproj.lean ====
module

public import proofs.«01_k».proof.Proof.Gen.Kernel3Ideal.Value
public import proofs.«01_k».proof.Proof.Common

@[expose] public section

set_option maxRecDepth 16384

/-! The result array of the input projection, as one function of its arguments. -/

noncomputable section

open Idealize.ShloMosaic Idealize.ShloMosaic.TcCoe Idealize.SL.Sem
open Idealize.ShloMosaic.Pipeline (Dat)
open Cert.Common

namespace Cert.Kernel3Ideal.Value

open Cert.Kernel3Ideal Cert.Kernel3Ideal.Gen

/-- The column of the weight that result column `q` is made from: the 64 step-size columns are left out. -/
def srcCol (q : Fin 20480) : Fin 20544 := if h : q.val < 10240 then ⟨q.val, by omega⟩ else ⟨q.val + 64, by omega⟩

/-- The product of row `r` of the input with the weight's column for result column `q`. -/
def dotAt (x : S16384x2048.Idx → EReal) (w : S2048x20544.Idx → EReal) (r : Fin 16384) (q : Fin 20480) : EReal :=
  ∑ k : Fin 2048, x (ix2 r k) * w (ix2 k (srcCol q))

/-- The projection at row `r` and column `q`: the first 4096 columns are multiplied with their logistic function. -/
def projAt (x : S16384x2048.Idx → EReal) (w : S2048x20544.Idx → EReal) (r : Fin 16384) (q : Fin 20480) : EReal :=
  if q.val < 4096 then dotAt x w r q * lgst (dotAt x w r q) else dotAt x w r q

variable (m : (ℓ : Loc nD τ sig) → Buf (Elt Ideal) ℓ)

/-- The block index of every window at every grid point (the weight's window in elements). -/
theorem idx_val : ∀ t : Fin cfg0.N, win0_0.index t = ![t.val % 8, 0]
    ∧ win0_1.index t = ![if t.val < 80 then 1024 * (t.val / 8) else 1024 * (t.val / 8) + 64, 0]
    ∧ win0_2.index t = ![t.val % 8, t.val / 8] ∧ t.val < 160 :=
  (by decide +kernel : ∀ t : Fin grid0.N, _)

/-- The weight's block at a grid point holds the weight's columns of the point's column tile, transposed. -/
theorem wblk (c : Dev nD) (t : Fin cfg0.N) (a : Fin 1024) (k : Fin 2048) (q : Fin 20480)
    (hq : q.val = 1024 * (t.val / 8) + a.val) :
    iblk m c 1 t (ix2 a k) = m ((c : Thread nD τ).loc main_arg1) (ix2 k (srcCol q)) := by
  obtain ⟨-, h1, -, hN⟩ := idx_val t
  have hs : (srcCol q).val = if t.val < 80 then q.val else q.val + 64 := by
    unfold srcCol
    split_ifs <;> first | rfl | omega
  have e : ∀ b, (((View.whole main_v0).slice (win0_1.rect t)).emb (ix2 a k) b).val
      = win0_1.index t b + ((ix2 a k : S1024x2048.Idx) b).val := fun b =>
    ValueKit.view_emb_slice_whole_unit_val main_v0 _ _ _ (ix2 a k) b
  have key : iblk m c 1 t (ix2 a k) = V m c main_v0 (ix2 (srcCol q) k) := by
    show V m c main_v0 (((View.whole main_v0).slice (win0_1.rect t)).emb (ix2 a k)) = _
    congr 1
    funext b
    apply Fin.ext
    refine (e b).trans ?_
    rw [h1]
    fin_cases b
    · show (if t.val < 80 then 1024 * (t.val / 8) else 1024 * (t.val / 8) + 64) + a.val = (srcCol q).val
      rw [hs]
      split_ifs <;> omega
    · show 0 + k.val = k.val
      omega
  rw [key]
  blk_simp [V]
  entry_read
  pointwise

/-- After every grid point the carried scratch holds the weight's columns of the point's column tile, transposed. -/
theorem scratch (c : Dev nD) : ∀ (n : ℕ) (hn : n < cfg0.N) (a : Fin 1024) (k : Fin 2048) (q : Fin 20480)
    (hq : q.val = 1024 * (n / 8) + a.val),
    (outsAt0 m c n hn).2 (ix2 a k) = m ((c : Thread nD τ).loc main_arg1) (ix2 k (srcCol q)) := by
  intro n
  induction n using Nat.strong_induction_on with
  | _ n ih =>
  intro hn a k q hq
  have hi := idx_val ⟨n, hn⟩
  have hN : n < 160 := hi.2.2.2
  have wb := wblk m c ⟨n, hn⟩ a k q hq
  by_cases h0 : n % 8 = 0
  · rw [← wb]
    by_cases h1 : n < 32
    · rw [outsAt0_A m c ⟨n, hn⟩ h0 h1 (by simp only; omega)]
      dsimp only
      rw [sout0_A_0]
      frame_out
      canon_tiles x h
      all_goals
        have h0' : a.val = _ := h0
        have h1' : k.val = _ := h1
        open_payloads
        pointwise
        blk_ext
    · rw [outsAt0_C m c ⟨n, hn⟩ h0 h1 (by simp only; omega)]
      dsimp only
      rw [sout0_C_0]
      frame_out
      canon_tiles x h
      all_goals
        have h0' : a.val = _ := h0
        have h1' : k.val = _ := h1
        open_payloads
        pointwise
        blk_ext
  · have ih' := ih (n - 1) (by omega) (by omega) a k q (by omega)
    by_cases h1 : n < 32
    · rw [outsAt0_B m c ⟨n, hn⟩ h0 h1 (by simp only; omega)]
      exact ih'
    · rw [outsAt0_D m c ⟨n, hn⟩ h0 h1 (by simp only; omega)]
      exact ih'

/-- Reading the whole scratch reads it at the index itself. -/
theorem idx_whole (l : Fin 1024) (k : Fin 2048) :
    (Rect.unit (s := S1024x2048) ![0, 0] ![1024, 2048] inb_S1024x2048_S1024x2048_0_0).idx (ix2 l k) = ix2 l k := by
  funext b
  apply Fin.ext
  refine (ValueKit.rect_emb_unit_val _ _ inb_S1024x2048_S1024x2048_0_0 (ix2 l k) b).trans ?_
  fin_cases b <;> simp

set_option maxHeartbeats 800000 in
/-- What grid point `t` leaves in the output's staging buffer, at block row `r` and column `l`. -/
theorem point (c : Dev nD) (t : Fin cfg0.N) (r : Fin 2048) (l : Fin 1024) (R : Fin 16384) (q : Fin 20480)
    (hR : R.val = 2048 * (t.val % 8) + r.val) (hq : q.val = 1024 * (t.val / 8) + l.val) :
    (outsAt0 m c t.val t.isLt).1 (ix2 r l)
      = projAt (m ((c : Thread nD τ).loc main_arg0)) (m ((c : Thread nD τ).loc main_arg1)) R q := by
  have hi := idx_val t
  have hN : t.val < 160 := hi.2.2.2
  have xb : ∀ k : Fin 2048, iblk m c 0 t (ix2 r k) = m ((c : Thread nD τ).loc main_arg0) (ix2 R k) := fun k => by
    blk_ext [iblk, V, hi]
  have wb : ∀ k : Fin 2048, iblk m c 1 t (ix2 l k) = m ((c : Thread nD τ).loc main_arg1) (ix2 k (srcCol q)) :=
    fun k => wblk m c t l k q hq
  have hS : ∀ X : S2048x2048.Idx → EReal,
      (∀ k : Fin 2048, X (ix2 r k) = m ((c : Thread nD τ).loc main_arg0) (ix2 R k)) →
      ∀ W : S1024x2048.Idx → EReal, (∀ k : Fin 2048, W (ix2 l k) = iblk m c 1 t (ix2 l k)) →
      ∀ (r' : Fin 2048) (l' : Fin 1024), r' = r → l' = l →
      ∑ k : Fin 2048, X (ix2 r' k) * W (ix2 l' k)
        = dotAt (m ((c : Thread nD τ).loc main_arg0)) (m ((c : Thread nD τ).loc main_arg1)) R q := by
    rintro X hX W hW r' l' rfl rfl
    exact Finset.sum_congr rfl fun k _ => by rw [hW, hX, wb]
  have hz : ∀ S : EReal,
      S = dotAt (m ((c : Thread nD τ).loc main_arg0)) (m ((c : Thread nD τ).loc main_arg1)) R q → q.val < 4096 →
      S * lgst S = projAt (m ((c : Thread nD τ).loc main_arg0)) (m ((c : Thread nD τ).loc main_arg1)) R q := by
    rintro S rfl h4
    rw [projAt, if_pos h4]
  have hx' : ∀ r' : Fin 2048, r'.val = r.val → ∀ k : Fin 2048,
      iblk m c 0 t (ix2 r' k) = m ((c : Thread nD τ).loc main_arg0) (ix2 R k) := fun r' h k => by
    rw [Fin.ext h, xb]
  have hw' : ∀ W : S1024x2048.Idx → EReal, (∀ k : Fin 2048, W (ix2 l k) = iblk m c 1 t (ix2 l k)) →
      ∀ l' : Fin 1024, l'.val = l.val → ∀ k : Fin 2048, W (ix2 l' k) = iblk m c 1 t (ix2 l k) := fun W hW l' h k => by
    rw [Fin.ext h, hW]
  by_cases h0 : t.val % 8 = 0
  · by_cases h1 : t.val < 32
    · rw [outsAt0_A m c t h0 h1 (by omega)]
      dsimp only
      rw [out0_A_2]
      frame_out
      generalize hW : (View.whole cc0_scratch0).readCov (Val := Elt Ideal) _ _ = W
      have hW' : ∀ k : Fin 2048, W (ix2 l k) = iblk m c 1 t (ix2 l k) := fun k => by
        rw [← hW]
        simp only [View.readCov_eq_canon' (Val := Elt Ideal)]
        rw [idx_whole]
        canon_tiles x h
        all_goals
          have h0' : l.val = _ := h0
          have h1' : k.val = _ := h1
          open_payloads
          pointwise
          blk_ext
      canon_tiles x h
      all_goals
        idx_vars x
        open_payloads
        pointwise
        rw [half_tanh]
        refine hz _ (Finset.sum_congr rfl fun k _ => mul_congr ?_ ?_) (by omega)
        · exact hx' _ h0.symm k
        · exact (hw' W hW' _ h1.symm k).trans (wb k)
    · rw [outsAt0_C m c t h0 h1 (by omega)]
      dsimp only
      rw [out0_C_2]
      frame_out
      pointwise [k0_pay6]
      generalize hW : (View.whole cc0_scratch0).readCov (Val := Elt Ideal) _ _ = W
      have hW' : ∀ k : Fin 2048, W (ix2 l k) = iblk m c 1 t (ix2 l k) := fun k => by
        rw [← hW]
        simp only [View.readCov_eq_canon' (Val := Elt Ideal)]
        rw [idx_whole]
        canon_tiles x h
        all_goals
          have h0' : l.val = _ := h0
          have h1' : k.val = _ := h1
          open_payloads
          pointwise
          blk_ext
      rw [hS _ xb _ hW' r l rfl rfl, projAt, if_neg (by omega)]
  · by_cases h1 : t.val < 32
    · rw [outsAt0_B m c t h0 h1 (by omega)]
      dsimp only
      rw [out0_B_2]
      frame_out
      have hW' : ∀ k : Fin 2048, (outsAt0 m c (t.val - 1) (Nat.lt_of_le_of_lt (Nat.sub_le _ _) t.isLt)).2 (ix2 l k)
          = iblk m c 1 t (ix2 l k) := fun k => by
        rw [wb, scratch m c (t.val - 1) _ l k q (by omega)]
      generalize (outsAt0 m c (t.val - 1) (Nat.lt_of_le_of_lt (Nat.sub_le _ _) t.isLt)).2 = W at *
      have hr : View.read (Elt Ideal) (View.whole cc0_scratch0) ((Memref.isWhole_whole cc0_scratch0).unread W) = W :=
        (Memref.isWhole_whole cc0_scratch0).read_unread W
      canon_tiles x h
      all_goals
        idx_vars x
        open_payloads
        pointwise
        rw [hr, half_tanh]
        refine hz _ (Finset.sum_congr rfl fun k _ => mul_congr ?_ ?_) (by omega)
        · exact hx' _ h0.symm k
        · exact (hw' W hW' _ h1.symm k).trans (wb k)
    · rw [outsAt0_D m c t h0 h1 (by omega)]
      dsimp only
      rw [out0_D_2]
      frame_out
      pointwise [k0_pay6]
      have hW' : ∀ k : Fin 2048, (outsAt0 m c (t.val - 1) (Nat.lt_of_le_of_lt (Nat.sub_le _ _) t.isLt)).2 (ix2 l k)
          = iblk m c 1 t (ix2 l k) := fun k => by
        rw [wb, scratch m c (t.val - 1) _ l k q (by omega)]
      rw [show View.read (Elt Ideal) (View.whole cc0_scratch0) ((Memref.isWhole_whole cc0_scratch0).unread
        (outsAt0 m c (t.val - 1) (Nat.lt_of_le_of_lt (Nat.sub_le _ _) t.isLt)).2) = _ from
        (Memref.isWhole_whole cc0_scratch0).read_unread _, hS _ xb _ hW' r l rfl rfl, projAt, if_neg (by omega)]

/-- The array the call leaves: the projection at every row and column. -/
theorem final (c : Dev nD) : (dats m 0 c).arrAt 2 cfg0.N = fun j =>
    projAt (m ((c : Thread nD τ).loc main_arg0)) (m ((c : Thread nD τ).loc main_arg1)) (j 0) (j 1) := by
  refine (dats m 0 c).arrAt_eq_of_covers 2 _ (by decide +kernel) fun t _ y => ?_
  have hi := idx_val t
  blk_simp
  rw [after0_2]
  idx_vars y
  have e : ((View.whole main_v1).slice (win0_2.rect t)).emb (ix2 y0 y1)
      = ix2 (⟨2048 * (t.val % 8) + y0.val, by omega⟩ : Fin 16384) (⟨1024 * (t.val / 8) + y1.val, by omega⟩ : Fin 20480) := by
    blk_ext [hi]
  rw [e]
  exact point m c t y0 y1 _ _ rfl rfl

end Cert.Kernel3Ideal.Value

end
-- ==== Proof.InprojRef.lean ====
module

public import proofs.«01_k».proof.Proof.Gen.Reference3Ideal.Run
public import proofs.«01_k».proof.Proof.Inproj

@[expose] public section

set_option maxRecDepth 16384

/-! The input projection's array is what its reference's operations compute. -/

noncomputable section

open Idealize.ShloMosaic Idealize.ShloMosaic.TcCoe Idealize.SL.Sem
open Cert.Common

namespace Cert.Reference3Ideal.Value

open Cert.Reference3Ideal Cert.Reference3Ideal.Gen

/-- A row of the input times the weight's column that result column `q` is made from. -/
theorem dot_col (x : S16384x2048.Idx → EReal) (w : S2048x20544.Idx → EReal) (r : Fin 16384) (q : Fin 20480) (s : Fin 20544)
    (h : s.val = (Cert.Kernel3Ideal.Value.srcCol q).val) :
    ∑ k : Fin 2048, x (ix2 r k) * w (ix2 k s) = Cert.Kernel3Ideal.Value.dotAt x w r q := by
  rw [Cert.Kernel3Ideal.Value.dotAt, Fin.ext h]

set_option maxHeartbeats 1000000 in
/-- The reference runs to the projection at every row and column, its arguments unchanged. -/
theorem run_proj (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = (fun j => Cert.Kernel3Ideal.Value.projAt
        (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run (F := Ideal) m ρ)
  funext j
  idx_vars j
  show _ = Cert.Kernel3Ideal.Value.projAt _ _ j0 j1
  pointwise
  have hv : (Cert.Kernel3Ideal.Value.srcCol j1).val = if j1.val < 10240 then j1.val else j1.val + 64 := by
    unfold Cert.Kernel3Ideal.Value.srcCol
    split_ifs <;> rfl
  unfold Cert.Kernel3Ideal.Value.projAt
  by_cases h1 : j1.val < 4096
  · rw [dif_pos h1, if_pos h1, dot_col _ _ _ _ _ (by rw [hv]; simp only; split_ifs <;> omega), lgst]
  · rw [dif_neg h1, if_neg h1]
    by_cases h2 : j1.val - 4096 < 6144
    · rw [dif_pos h2, dot_col _ _ _ _ _ (by rw [hv]; simp only; split_ifs <;> omega)]
    · rw [dif_neg h2, dot_col _ _ _ _ _ (by rw [hv]; simp only; split_ifs <;> omega)]

end Cert.Reference3Ideal.Value

end
-- ==== Proof.DownKit.lean ====
module

public import proofs.«01_k».proof.Proof.Gen.Kernel4Ideal.Launch
public import proofs.«01_k».proof.Proof.Gen.Kernel4Ideal.Skeleton
public import Idealize.ShloMosaic.Lib.WholeRead
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Core `c`'s buffers when the kernel call is entered: as launched, then the host operations before the call. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The whole program is the host operations and then the kernel call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _
abbrev tbM0_2 : Memref sig .tc .smem S288 .i32 := Memref.whole main_v11
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S128x2048 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x2048 .f32 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S2048x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel4Ideal.Gen

end
-- ==== Proof.DownRun.lean ====
module

public import proofs.«01_k».proof.Proof.DownKit

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of used blocks, as the body reads it of its table. -/
def usedW (c : Dev nD) (xt1 : TbBuf0 (F := F) c tbM0_1) : BitVec 32 :=
  View.readAt (Elt F) tbM0_1.view (Rect.unit (s := S1) ![0] S1.size inb_S1_S1_0).toLoadRect xt1 (Shape.Idx.first (by decide))

/-- Whether the body casts the weight at a point: at the first block, and where the block's expert is not the one of
    the block before. -/
def changedW (c : Dev nD) (i : grid0.Coords) (xt0 : TbBuf0 (F := F) c tbM0_0) : BitVec 1 :=
  Scalar.cmpi .ne (Scalar.extui (Scalar.ori (Scalar.cmpi .eq (BitVec.ofNat 32 (i 1).val) 0#32)
    (Scalar.cmpi .ne
      (View.readAt (Elt F) tbM0_0.view (Rect.unit (s := S288) (k0_off2 i) S1.size (k0_off2_inb i)).toLoadRect xt0 (Shape.Idx.first (show 0 < S1.numel by decide)) : BitVec 32)
      (View.readAt (Elt F) tbM0_0.view (Rect.unit (s := S288) (k0_off3 i) S1.size (k0_off3_inb i)).toLoadRect xt0 (Shape.Idx.first (show 0 < S1.numel by decide)) : BitVec 32)))) 0#32

/-- A buffer read at the origin at its full extents is its whole contents. -/
theorem readAt_origin {κ : Kind} {sp : Space} {S : Shape} {e : EltTy} (M : Memref sig κ sp S e) (f : M.view.ty.Contents (Elt F))
    (off : Fin S.rank → Nat) (hoff : ∀ a, off a = 0) (inb : ∀ a, off a + S.size a ≤ S.size a) :
    View.readAt (Elt F) M.view (Rect.unit off S.size inb).toLoadRect f = M.view.read (Elt F) f := by
  funext x
  change M.view.read (Elt F) f ((Rect.unit off S.size inb).toLoadRect.idx x) = _
  congr 1
  funext a
  exact Fin.ext (by simp [LoadRect.idx, hoff])

/-- A buffer written at the origin at its full extents holds the value written. -/
theorem read_writes_origin {κ : Kind} {sp : Space} {S : Shape} {e : EltTy} (M : Memref sig κ sp S e) (f : M.view.ty.Contents (Elt F))
    (off : Fin S.rank → Nat) (hoff : ∀ a, off a = 0) (inb : ∀ a, off a + S.size a ≤ S.size a) (w : Vec F S e) :
    M.view.read (Elt F) (M.view.writes (Elt F) f [⟨Rect.unit off S.size inb, w⟩]) = w := by
  funext x
  exact View.read_writes_cons_hit_of_coords M.view f (Rect.unit off S.size inb) w [] x x (by intro a; simp [Rect.unit, hoff])

/-- What the body leaves in its scratch. -/
def scrOut (c : Dev nD) (i : grid0.Coords) (x1 : Vec F S1x2048x2048 .f32) (x9 : Vec F S2048x2048 .bf16)
    (xt0 : TbBuf0 (F := F) c tbM0_0) (xt1 : TbBuf0 (F := F) c tbM0_1) : Vec F S2048x2048 .bf16 :=
  if k0_cond1 i (usedW c xt1) = 1#1 then (if changedW c i xt0 = 1#1 then k0_pay1 x1 else x9) else x9

/-- What the body leaves in its result block. -/
def resOut (c : Dev nD) (i : grid0.Coords) (x0 : Vec F S128x2048 .i32) (x1 : Vec F S1x2048x2048 .f32) (x2 : Vec F S1x1x2048 .f32)
    (x9 : Vec F S2048x2048 .bf16) (xt0 : TbBuf0 (F := F) c tbM0_0) (xt1 : TbBuf0 (F := F) c tbM0_1) : Vec F S256x2048 .f32 :=
  if k0_cond1 i (usedW c xt1) = 1#1 then k0_pay2 x0 (if changedW c i xt0 = 1#1 then k0_pay1 x1 else x9) x2 else k0_pay3

/-- A comparison's bit widened and compared to zero is the bit. -/
theorem widened_ne_zero (b : Bool) : Scalar.cmpi .ne (Scalar.extui (BitVec.ofBool b) : BitVec 32) 0#32 = 1#1 ↔ b = true := by
  cases b <;> decide

/-- The first branch is taken where the block number is below the number of used blocks. -/
theorem cond1_iff (i : grid0.Coords) (v : BitVec 32) : k0_cond1 i v = 1#1 ↔ (BitVec.ofNat 32 (i 1).val).toInt < v.toInt := by
  unfold k0_cond1
  exact (widened_ne_zero _).trans decide_eq_true_iff

/-- The two branches of the body exclude each other and one is taken. -/
theorem cond3_iff (i : grid0.Coords) (v : BitVec 32) : k0_cond3 i v = 1#1 ↔ ¬ k0_cond1 i v = 1#1 := by
  rw [cond1_iff]
  unfold k0_cond3
  exact ((widened_ne_zero _).trans decide_eq_true_iff).trans not_lt.symm

set_option maxHeartbeats 1000000 in
theorem runX (c : Dev nD) (i : grid0.Coords) (arg5 : Memref sig .tc .vmem S128x2048 .i32) (harg5 : arg5.IsWhole) (arg6 : Memref sig .tc .vmem S1x2048x2048 .f32) (harg6 : arg6.IsWhole) (arg7 : Memref sig .tc .vmem S1x1x2048 .f32) (harg7 : arg7.IsWhole) (arg8 : Memref sig .tc .vmem S256x2048 .f32) (harg8 : arg8.IsWhole) (arg9 : Memref sig .tc .vmem S2048x2048 .bf16) (harg9 : arg9.IsWhole)
    (x0 : Vec F S128x2048 .i32) (x1 : Vec F S1x2048x2048 .f32) (x2 : Vec F S1x1x2048 .f32) (x9 : Vec F S2048x2048 .bf16) (xt0 : TbBuf0 (F := F) c tbM0_0) (xt1 : TbBuf0 (F := F) c tbM0_1) (xt2 : TbBuf0 (F := F) c tbM0_2) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ (∃ d, owns (c : Thread nD τ) arg8 fullShare d) ∗ owns (c : Thread nD τ) arg9 fullShare x9 ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare (resOut c i x0 x1 x2 x9 xt0 xt1) ∗ owns (c : Thread nD τ) arg9 fullShare (scrOut c i x1 x9 xt0 xt1) ∗ tbPt0 c tbM0_0 xt0 ∗ tbPt0 c tbM0_1 xt1 ∗ tbPt0 c tbM0_2 xt2) -∗ K ⟨⟩))
          ⊢ wp frame (wpE (defs₀ (F := F)) Variants.none c none) E (cc0_ffn_down i tbM0_0 htbM0_0 tbM0_1 htbM0_1 tbM0_2 htbM0_2 arg5 harg5 arg6 harg6 arg7 harg7 arg8 harg8 arg9 harg9) K := by
    intro E K
    simp only [cc0_ffn_down_eq_skeleton]; unfold cc0_ffn_down_skel
    unfold owns
    iintro ⟨⟨%f0, %hf0, H0⟩, ⟨%f1, %hf1, H1⟩, ⟨%f2, %hf2, H2⟩, ⟨%d3, %f3, -, H3⟩, ⟨%fs0, %hfs0, HS0⟩, HT0, HT1, HT2, Hk⟩
    obtain rfl := harg5.eq_unread hf0; obtain rfl := harg6.eq_unread hf1; obtain rfl := harg7.eq_unread hf2; obtain rfl := harg9.eq_unread hfs0
    sl_exec
    sl_step
    have e21 : runX.sl.v21 c i arg6 harg6 arg9 harg9 x1 x9 xt0 = (if changedW c i xt0 = 1#1 then k0_pay1 x1 else x9) := by
      unfold runX.sl.v21
      change View.readAt (Elt F) arg9.view _ (if hc : changedW c i xt0 = 1#1 then _ else _) = _
      by_cases h : changedW c i xt0 = 1#1
      · rw [dif_pos h, if_pos h, readAt_origin arg9 _ _ (by decide), read_writes_origin _ _ _ (by decide), readAt_origin arg6 _ _ (by decide),
          harg6.read_unread]
      · rw [dif_neg h, if_neg h, readAt_origin arg9 _ _ (by decide), harg9.read_unread]
    iapply Hk; isplitl [H0]
    · iexists harg5.unread x0; isplitr; · ipureintro; exact harg5.read_unread x0
      iexact H0
    isplitl [H1]
    · iexists harg6.unread x1; isplitr; · ipureintro; exact harg6.read_unread x1
      iexact H1
    isplitl [H2]
    · iexists harg7.unread x2; isplitr; · ipureintro; exact harg7.read_unread x2
      iexact H2
    isplitl [H3]
    · iexists _; isplitr; swap; · iexact H3
      ipureintro
      change View.read (Elt F) arg8.view (if hc : k0_cond3 i (usedW c xt1) = 1#1 then arg8.view.writes (Elt F) (if hc : k0_cond1 i (usedW c xt1) = 1#1 then _ else _) _ else if hc : k0_cond1 i (usedW c xt1) = 1#1 then _ else _) = _
      unfold resOut
      by_cases h : k0_cond1 i (usedW c xt1) = 1#1
      · have h3 : ¬ k0_cond3 i (usedW c xt1) = 1#1 := fun h' => (cond3_iff i _).1 h' h
        rw [dif_neg h3, dif_pos h, if_pos h, read_writes_origin _ _ _ (by decide), e21, readAt_origin arg5 _ _ (by decide), harg5.read_unread,
          readAt_origin arg7 _ _ (by decide), harg7.read_unread]
      · rw [dif_pos ((cond3_iff i _).2 h), if_neg h, read_writes_origin _ _ _ (by decide)]
    isplitl [HS0]
    · iexists _; isplitr; swap; · iexact HS0
      ipureintro
      change View.read (Elt F) arg9.view (if hc : k0_cond1 i (usedW c xt1) = 1#1 then (if hc : changedW c i xt0 = 1#1 then _ else _) else _) = _
      unfold scrOut
      by_cases h : k0_cond1 i (usedW c xt1) = 1#1
      · rw [dif_pos h, if_pos h]
        by_cases h' : changedW c i xt0 = 1#1
        · rw [dif_pos h', if_pos h', read_writes_origin _ _ _ (by decide), readAt_origin arg6 _ _ (by decide), harg6.read_unread]
        · rw [dif_neg h', if_neg h', harg9.read_unread]
      · rw [dif_neg h, if_neg h, harg9.read_unread]
    isplitl [HT0]; · iexact HT0
    isplitl [HT1]; · iexact HT1
    iexact HT2

end Cert.Kernel4Ideal.Gen

end
-- ==== Proof.DownFrame.lean ====
module

public import proofs.«01_k».proof.Proof.DownRun

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body at point `t`, on what the pipeline calls it with. -/
abbrev bodyAt0 (a : (pcfg0 (F := F)).Adm) (t : Fin (cfg0 a).N) : Prog (TpuEff nD τ sig (Elt F) Λ₀ .tc) PUnit :=
  cc0_ffn_down (grid0.coords t) (Memref.whole main_arg0) (Memref.isWhole_whole _) (Memref.whole main_arg1) (Memref.isWhole_whole _) (Memref.whole main_v11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

/-- The tables' contents, as the body finds them. -/
abbrev tb0 (c : Dev nD) : TbBuf0 (F := F) c tbM0_0 := tbl m 0
abbrev tb1 (c : Dev nD) : TbBuf0 (F := F) c tbM0_1 := tbl m 1
abbrev tb2 (c : Dev nD) : TbBuf0 (F := F) c tbM0_2 := tbl m 2

/-! ## What the points leave -/

/-- The blocks the body finds at a point. -/
abbrev hidAt (hO : Ok m) (c : Dev nD) (t : Fin (cfgM m hO).N) : Vec F S128x2048 .i32 := iblk m hO c 0 t
abbrev wAt (hO : Ok m) (c : Dev nD) (t : Fin (cfgM m hO).N) : Vec F S1x2048x2048 .f32 := iblk m hO c 1 t
abbrev biasAt (hO : Ok m) (c : Dev nD) (t : Fin (cfgM m hO).N) : Vec F S1x1x2048 .f32 := iblk m hO c 2 t

/-- Whether the block of a point is used. -/
def UsedAt (hO : Ok m) (c : Dev nD) (t : Fin (cfgM m hO).N) : Prop := k0_cond1 (grid0.coords t) (usedW c (tb1 m c)) = 1#1
instance (hO : Ok m) (c : Dev nD) (t : Fin (cfgM m hO).N) : Decidable (UsedAt m hO c t) := inferInstanceAs (Decidable (_ = _))

/-- Where a used block keeps the weight of the block before, the block before is used and its weight is the same. -/
def Steady (hO : Ok m) : Prop := ∀ (c : Dev nD) (t : Fin (cfgM m hO).N), UsedAt m hO c t →
  ¬ changedW c (grid0.coords t) (tb0 m c) = 1#1 →
    ∃ s : Fin (cfgM m hO).N, s.val + 1 = t.val ∧ UsedAt m hO c s ∧ wAt m hO c s = wAt m hO c t

/-- What a point leaves in its result block: the product with its own expert's weight, or zero. -/
def outAt (hO : Ok m) (c : Dev nD) (t : Fin (cfgM m hO).N) : Vec F S256x2048 .f32 :=
  if UsedAt m hO c t then k0_pay2 (hidAt m hO c t) (k0_pay1 (wAt m hO c t)) (biasAt m hO c t) else k0_pay3

/-- The scratch before position `n`: the cast weight of the point before, if that point is used. -/
def Good (hO : Ok m) (c : Dev nD) (n : ℕ) (d : Vec F S2048x2048 .bf16) : Prop :=
  ∀ s : Fin (cfgM m hO).N, s.val + 1 = n → UsedAt m hO c s → d = k0_pay1 (wAt m hO c s)

/-- The scratch after a point holds that point's cast weight, if the point is used. -/
theorem good_step (hO : Ok m) (hS : Steady m hO) (c : Dev nD) (t : Fin (cfgM m hO).N) (d : Vec F S2048x2048 .bf16)
    (hd : Good m hO c t.val d) :
    Good m hO c (t.val + 1) (scrOut c (grid0.coords t) (wAt m hO c t) d (tb0 m c) (tb1 m c)) := by
  intro s hs hu
  obtain rfl : s = t := Fin.ext (by omega)
  unfold scrOut
  rw [if_pos (show k0_cond1 (grid0.coords s) (usedW c (tb1 m c)) = 1#1 from hu)]
  by_cases hc : changedW c (grid0.coords s) (tb0 m c) = 1#1
  · rw [if_pos hc]
  · rw [if_neg hc]
    obtain ⟨r, hr, hur, hw⟩ := hS c s hu hc
    rw [← hw]; exact hd r hr hur

/-- What the body leaves in its result block at a point is `outAt`. -/
theorem res_step (hO : Ok m) (hS : Steady m hO) (c : Dev nD) (t : Fin (cfgM m hO).N) (d : Vec F S2048x2048 .bf16)
    (hd : Good m hO c t.val d) :
    resOut c (grid0.coords t) (hidAt m hO c t) (wAt m hO c t) (biasAt m hO c t) d (tb0 m c) (tb1 m c) = outAt m hO c t := by
  unfold resOut outAt
  by_cases hu : UsedAt m hO c t
  · rw [if_pos hu, if_pos (show k0_cond1 (grid0.coords t) (usedW c (tb1 m c)) = 1#1 from hu)]
    by_cases hc : changedW c (grid0.coords t) (tb0 m c) = 1#1
    · rw [if_pos hc]
    · rw [if_neg hc]
      obtain ⟨r, hr, hur, hw⟩ := hS c t hu hc
      rw [hd r hr hur, hw]
  · rw [if_neg hu, if_neg (show ¬ k0_cond1 (grid0.coords t) (usedW c (tb1 m c)) = 1#1 from hu)]

/-! ## The pipeline's proof data -/

/-- The region's invariant before position `n`. -/
def PhiAt (hO : Ok m) (c : Dev nD) (n : ℕ) : sProp 𝕄 :=
  iprop(((∃ d, ⌜Good m hO c n d⌝ ∗ owns (c : Thread nD τ) scM0_0 fullShare d) ∗ (∃ r, prngReg c r)) ∗ Pipeline.ΦT pre0 (tbl m) c)

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := PhiAt m hO c t.val
  q _ := fullShare
  owed _ := 0

/-- The proof data's arrays are the contents at the call. -/
theorem A_eq (hO : Ok m) (c : Dev nD) (w : Fin (cfgM m hO).W) : (dats m hO 0 c).A w = V m c (Pipeline.arrRef spec0 w) := by
  dsimp only [dats]

/-- The invariant at a point. -/
theorem Phi_eq (hO : Ok m) (c : Dev nD) (n : Fin ((cfgM m hO).N + 1)) : (dats m hO 0 c).Φ n = PhiAt m hO c n.val := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outAt m hO c t := by dsimp only [dats]; try rfl

/-- Each input's staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- For any number of used blocks one of the two branches is taken. -/
theorem branch_taken (i : grid0.Coords) (v : BitVec 32) : (!(k0_cond1 i v == 1#1) && !(k0_cond3 i v == 1#1)) = false := by
  by_cases h : k0_cond1 i v = 1#1
  · simp [h]
  · simp [(cond3_iff i _).2 h]

/-- No point leaves a window's buffer alone: the inputs by the kernel's statement, the result because one of the two
    branches stores it. -/
theorem live0_0 (a : (pcfg0 (F := F)).Adm) (i : grid0.Coords) : (cfg0 a).idle 0 i = false := rfl
theorem live0_1 (a : (pcfg0 (F := F)).Adm) (i : grid0.Coords) : (cfg0 a).idle 1 i = false := rfl
theorem live0_2 (a : (pcfg0 (F := F)).Adm) (i : grid0.Coords) : (cfg0 a).idle 2 i = false := rfl
theorem live0_3 (a : (pcfg0 (F := F)).Adm) (i : grid0.Coords) : (cfg0 a).idle 3 i = false := by
  obtain ⟨pf, h⟩ := a
  exact branch_taken i (pf.atD 1 ![0])

/-- What the body returns of each window. -/
theorem leaves0_0 (hO : Ok m) (c : Dev nD) (t : Fin (cfgM m hO).N) : (dats m hO 0 c).leavesExact 0 t = owns (c : Thread nD τ) (ms0_0 m hO t) fullShare (iblk m hO c 0 t) := by
  rw [← after0_0]; unfold Dat.leavesExact; rw [live0_0 (adm m hO)]; rfl
theorem leaves0_1 (hO : Ok m) (c : Dev nD) (t : Fin (cfgM m hO).N) : (dats m hO 0 c).leavesExact 1 t = owns (c : Thread nD τ) (ms0_1 m hO t) fullShare (iblk m hO c 1 t) := by
  rw [← after0_1]; unfold Dat.leavesExact; rw [live0_1 (adm m hO)]; rfl
theorem leaves0_2 (hO : Ok m) (c : Dev nD) (t : Fin (cfgM m hO).N) : (dats m hO 0 c).leavesExact 2 t = owns (c : Thread nD τ) (ms0_2 m hO t) fullShare (iblk m hO c 2 t) := by
  rw [← after0_2]; unfold Dat.leavesExact; rw [live0_2 (adm m hO)]; rfl
theorem leaves0_3 (hO : Ok m) (c : Dev nD) (t : Fin (cfgM m hO).N) : (dats m hO 0 c).leavesExact 3 t = owns (c : Thread nD τ) (ms0_3 m hO t) fullShare (outAt m hO c t) := by
  rw [← after0_3]; unfold Dat.leavesExact; rw [live0_3 (adm m hO)]; rfl

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

set_option maxHeartbeats 1600000 in
/-- The body at any point: it finds its blocks and the scratch of the point before, and leaves `outAt` and the scratch
    the next point finds. -/
theorem sound_body (hO : Ok m) (hS : Steady m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    leaves0_0, leaves0_1, leaves0_2, leaves0_3, Phi_eq, Phi_eq, Fin.val_succ, Fin.val_castSucc]
  unfold PhiAt
  rw [PhiT0_eq]
  iintro ⟨⟨⟨⟨%d, %hd, HS0⟩, Hg⟩, ⟨HT0, HT1, HT2⟩⟩, Ho, ⟨%d0, H0⟩, ⟨%d1, H1⟩, ⟨%d2, H2⟩, ⟨%d3, H3⟩⟩
  iapply ((runX c (grid0.coords t) _ _ _ _ _ _ _ _ _ _ (iblk m hO c 0 t) (iblk m hO c 1 t) (iblk m hO c 2 t) d (tb0 m c) (tb1 m c) (tb2 m c)) Set.univ _)
  isplitl [H0]; · iexact H0
  isplitl [H1]; · iexact H1
  isplitl [H2]; · iexact H2
  isplitl [H3]; · iexists _; iexact H3
  isplitl [HS0]; · iexact HS0
  isplitl [HT0]; · iexact HT0
  isplitl [HT1]; · iexact HT1
  isplitl [HT2]; · iexact HT2
  rw [res_step m hO hS c t d hd]
  iintro ⟨H0, H1, H2, H3, HS0, HT0, HT1, HT2⟩
  isplitl [HS0 Hg HT0 HT1 HT2]
  · isplitl [HS0 Hg]
    · isplitl [HS0]
      · iexists _; isplitr; swap; · iexact HS0
        ipureintro; exact good_step m hO hS c t d hd
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

attribute [local irreducible] k0_cond1 k0_cond3 in
/-- The library's body obligation, at every point. -/
theorem body_obligation (hO : Ok m) (hS : Steady m hO) (c : Dev nD) : BodyObligation (dats (F := F) m hO 0 c) (defs₀ (F := F)) Variants.none () Set.univ := fun t => by
  rw [bigSep_W0, bigSep_W0, defs₀_row m hO]
  exact triple_restated (sound_body m hO hS c t) rfl .rfl fun _ => by
    exact .rfl

/-! ## The run and the frame -/

set_option backward.isDefEq.respectTransparency.types false in
/-- Every fair execution of the program ends, with the result array at what the points leave (`Dat.arrAt`), every
    other array as it was at the call, and every counter at zero. -/
theorem run_main_quiescent (hO : Ok m) (hS : Steady m hO) : θ_run defs (onTc (τ := τ) (main (F := F))) (s₀ m ρ) (fun r => (Pipeline.FramePost (Pipeline.pin pcfgs fun _ => adm m hO) (dats m hO) (0 : Fin 1) (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hS c).loose) (hshare := fun c => (dats m hO 0 c).share_full fun _ => rfl)
    (howed := fun _ _ => rfl) (V := V m) (hmain := hmain m Variants.none) (hA := A_eq m hO) (hpf := V_pre m)
    (hin := fun c => by
      rw [Phi_eq]; unfold PhiAt; refine (sep_mono (Entails.of_eq (PhiA0_eq c)) .rfl).trans ?_
      iintro ⟨⟨⟨%d, HS⟩, Hg⟩, HT⟩
      isplitl [HS Hg]
      · isplitl [HS]
        · iexists d; isplitr; · ipureintro; intro s hs; exact absurd hs (Nat.succ_ne_zero _)
          iexact HS
        iexact Hg
      iexact HT)
    (hout := fun c => by
      rw [Phi_eq]; unfold PhiAt; refine BIBase.Entails.trans ?_ (Entails.of_eq (PhiA0_eq c).symm)
      iintro ⟨⟨⟨%d, -, HS⟩, Hg⟩, -⟩
      isplitl [HS]
      · iexists d; iexact HS
      iexact Hg)

/-- The run, with the result array named and the arguments unchanged. -/
theorem run_blocks (hO : Ok m) (hS : Steady m hO) : θ_run defs (onTc (τ := τ) (main (F := F))) ⟨m, fun _ => 0, ρ⟩ (fun r =>
    (∀ c : Dev nD, r.2.mem ((c.tc : Thread nD τ).loc main_v13) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c).1 3,
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (((h.1 c).1 0).trans ((dats m hO 0 c).arrAt_in 0 rfl _)).trans (V_main_arg2 m c),
      (((h.1 c).1 1).trans ((dats m hO 0 c).arrAt_in 1 rfl _)).trans (V_main_arg3 m c),
      ((h.1 c).2 main_arg4 (by decide : main_arg4 ∈ Pipeline.restRefs sig spec0)).trans (V_main_arg4 m c)⟩, h.2⟩)
    (run_main_quiescent m ρ hO hS)

end Cert.Kernel4Ideal.Gen

end
-- ==== Proof.DownTable.lean ====
module

public import proofs.«01_k».proof.Pre_in_range
public import proofs.«01_k».proof.Proof.DownFrame
public import Idealize.ShloMosaic.Lib.Routing.OpsSet
public import Idealize.ShloMosaic.Lib.Pipeline.ValueKit
public import Idealize.ShloMosaic.Lib.Pointwise

@[expose] public section

set_option maxRecDepth 16384

/-! The two integer tables of the down projection under the precondition: every block's expert is one of the 32, and
between one and all 288 blocks are used. From it, the block each index map names lies inside its array, and a block that
does not cast its weight anew follows a used block with the same expert. -/

noncomputable section

namespace Cert.Kernel4Ideal.Gen

open Idealize.ShloMosaic Idealize.ShloMosaic.TcCoe Idealize.ShloMosaic.Tactic
open Idealize.ShloMosaic.WordCmp

variable {F : FTy → Type} [FloatOps F]

variable (m : (ℓ : Loc nD τ sig) → Buf (Elt F) ℓ)

/-- Two indices of a vector with one coordinate are one index. -/
theorem vec_idx {n : ℕ} (x y : (⟨1, ![n]⟩ : Shape).Idx) (h : (x 0).val = (y 0).val) : x = y := by
  funext a; obtain rfl : a = 0 := Subsingleton.elim _ _
  exact Fin.ext h

/-- A vector of one entry has one index. -/
theorem one_idx (x y : (⟨1, ![1]⟩ : Shape).Idx) : x = y := vec_idx _ _ (congrArg Fin.val (Subsingleton.elim (α := Fin 1) (x 0) (y 0)))

/-- A vector kept as a column, read at a row. -/
theorem col_at {α : Type} (x : S288.Idx → α) (b : Fin 288) : broadcastInDim S288x1 ![0] bcast_S288_S288x1_0 x (ValueIdx.ix2 b (0 : Fin 1)) = x (ix1 b) := by
  unfold broadcastInDim
  exact congrArg x (vec_idx _ _ rfl)

/-- The expert of a block, and how many blocks are used, as launched. -/
def expertOf (b : Fin 288) : BitVec 32 := (m (((0 : Dev nD) : Thread nD τ).loc main_arg0) : IVec S288 32) (ix1 b)
def usedCount : BitVec 32 := (m (((0 : Dev nD) : Thread nD τ).loc main_arg1) : IVec S1 32) (ix1 (0 : Fin 1))

/-- The tables' ranges. -/
structure InRange : Prop where
  expert_lt : ∀ b, (expertOf m b).toNat < 32
  used_pos : 1 ≤ (usedCount m).toNat
  used_le : (usedCount m).toNat ≤ 288

/-- A word at least zero and below a bound, read signed, is below the bound read as a natural number. -/
theorem toNat_lt_of_signed (x : BitVec 32) (k : ℕ) (hk : k < 2 ^ 31) (h0 : (0 : Int) ≤ x.toInt) (h1 : x.toInt < k) : x.toNat < k := by
  rw [BitVec.toInt_eq_toNat_cond] at h0 h1
  split at h1 <;> omega

/-- The precondition says exactly those ranges. -/
theorem inRange_of_pre (a0 : IVec S288 32) (a1 : IVec S1 32) [Cert.Pre_in_range.Facts] (a2 : IVec S36864x2048 32) (a3 : FVec F S32x2048x2048 .f32)
    (a4 : FVec F S32x2048 .f32) (h : Cert.Pre_in_range.fn (F := F) a0 a1 a2 a3 a4 = fun _ => 1#1) :
    (∀ b : Fin 288, (a0 (ix1 b)).toNat < 32) ∧ 1 ≤ (a1 (ix1 (0 : Fin 1))).toNat ∧ (a1 (ix1 (0 : Fin 1))).toNat ≤ 288 := by
  have andi_one (a b : BitVec 1) : IntOp.andi a b = 1#1 ↔ a = 1#1 ∧ b = 1#1 := by revert a b; decide
  have pre := fun b : Fin 288 => congrFun h (ix1 b)
  simp only [Cert.Pre_in_range.fn, constantI, broadcastInDim, cmpi, andi, andi_one, cmpi_sge_eq, cmpi_slt_eq, cmpi_sle_eq, ofBool_decide_eq_one_iff] at pre
  have e1 : ∀ j, shapeCast Cert.Pre_in_range.S_ a1 Cert.Pre_in_range.Facts.shapeCasts_S1_S_ j = a1 (ix1 (0 : Fin 1)) := by
    intro j
    unfold shapeCast
    congr 1
    funext a; obtain rfl : a = 0 := Subsingleton.elim _ _
    exact Subsingleton.elim (α := Fin 1) _ _
  simp only [e1] at pre
  have i32 : (32#32 : BitVec 32).toInt = 32 := by decide
  have i0 : (0#32 : BitVec 32).toInt = 0 := by decide
  have i1 : (1#32 : BitVec 32).toInt = 1 := by decide
  have i288 : (288#32 : BitVec 32).toInt = 288 := by decide
  simp only [i32, i0, i1, i288] at pre
  refine ⟨fun b => toNat_lt_of_signed _ 32 (by decide) (pre b).1.1.1 (pre b).1.1.2, ?_, ?_⟩
  · have h1 := (pre 0).1.2
    rw [BitVec.toInt_eq_toNat_cond] at h1
    split at h1 <;> omega
  · have h1 := (pre 0).1.2
    have h2 := (pre 0).2
    have := toNat_lt_of_signed (a1 (ix1 (0 : Fin 1))) 289 (by decide) (by omega) (by omega)
    omega

variable {m}

/-- The block whose expert block `b` is given: `b` itself when used, the last used block otherwise. -/
def liveBlock (h : InRange m) (b : Fin 288) : Fin 288 := ⟨min b.val ((usedCount m).toNat - 1), by have := b.isLt; omega⟩

variable (m)

/-- The looked-up table as the host operations compose it. -/
theorem V_main_v11 (c : Dev nD) : (V m c main_v11 : IVec S288 32)
    = Host.gather gather_S288_S288x1_S288_n_0_n_n_0_1_1 (m ((c : Thread nD τ).loc main_arg0) : IVec S288 32)
        (broadcastInDim S288x1 ![0] bcast_S288_S288x1_0
          (select (cmpi .slt (minsi (iotaInDim S288 32 0) (broadcastInDim S288 ![] bcast_S_S288 (subi (shapeCast S_ (m ((c : Thread nD τ).loc main_arg1) : IVec S1 32) shapeCasts_S1_S_) (constantI S_ 32 1#32))))
              (broadcastInDim S288 ![] bcast_S_S288 (constantI S_ 32 0#32)))
            (addi (minsi (iotaInDim S288 32 0) (broadcastInDim S288 ![] bcast_S_S288 (subi (shapeCast S_ (m ((c : Thread nD τ).loc main_arg1) : IVec S1 32) shapeCasts_S1_S_) (constantI S_ 32 1#32))))
              (broadcastInDim S288 ![] bcast_S_S288 (constantI S_ 32 288#32)))
            (minsi (iotaInDim S288 32 0) (broadcastInDim S288 ![] bcast_S_S288 (subi (shapeCast S_ (m ((c : Thread nD τ).loc main_arg1) : IVec S1 32) shapeCasts_S1_S_) (constantI S_ 32 1#32)))))) := by
  unfold V hostOps0
  after_results_simp <;> rfl

/-- The bias, with a unit axis put in. -/
theorem V_main_v12 (c : Dev nD) : (V m c main_v12 : FVec F S32x1x2048 .f32)
    = shapeCast S32x1x2048 (m ((c : Thread nD τ).loc main_arg4) : FVec F S32x2048 .f32) shapeCasts_S32x2048_S32x1x2048 := by
  unfold V hostOps0
  after_results_simp <;> rfl

variable {m}

/-- The number of used blocks as the host operations read it. -/
theorem used_scalar (j : S_.Idx) : shapeCast S_ (m (((0 : Dev nD) : Thread nD τ).loc main_arg1) : IVec S1 32) shapeCasts_S1_S_ j = usedCount m := by
  unfold shapeCast usedCount
  exact congrArg (m (((0 : Dev nD) : Thread nD τ).loc main_arg1) : IVec S1 32) (one_idx _ _)

/-- A natural number below a small bound, as a word, read signed. -/
theorem toInt_small {a : ℕ} (h : a < 2 ^ 31) : (BitVec.ofNat 32 a).toInt = a := toInt_ofNat_of_lt h

/-- The smaller of a block and the last used block, as words. -/
theorem min_word (h : InRange m) (b : ℕ) (hb : b < 288) :
    IntOp.minsi (BitVec.ofNat 32 b) (IntOp.subi (usedCount m) 1#32) = BitVec.ofNat 32 (min b ((usedCount m).toNat - 1)) := by
  have h1 := h.used_pos
  have h2 := h.used_le
  have e : IntOp.subi (usedCount m) 1#32 = BitVec.ofNat 32 ((usedCount m).toNat - 1) := by
    apply BitVec.eq_of_toNat_eq
    show (usedCount m - 1#32).toNat = _
    rw [BitVec.toNat_sub, BitVec.toNat_ofNat, BitVec.toNat_ofNat]
    omega
  rw [e]
  unfold IntOp.minsi
  have ea := toInt_small (a := b) (by omega)
  have eb := toInt_small (a := (usedCount m).toNat - 1) (by omega)
  by_cases hle : b ≤ (usedCount m).toNat - 1
  · rw [min_eq_left hle]
    first
      | rw [if_pos (by simp only [BitVec.sle, BitVec.slt, ea, eb, decide_eq_true_eq]; omega)]
      | (split
         · rfl
         · rename_i hn; simp only [BitVec.sle, BitVec.slt, ea, eb, decide_eq_true_eq] at hn
           have : b = (usedCount m).toNat - 1 := by omega
           rw [← this])
  · rw [min_eq_right (by omega)]
    first
      | rw [if_neg (by simp only [BitVec.sle, BitVec.slt, ea, eb, decide_eq_true_eq]; omega)]
      | (split
         · rename_i hn; simp only [BitVec.sle, BitVec.slt, ea, eb, decide_eq_true_eq] at hn
           omega
         · rfl)

/-- The looked-up table at a block: the expert of the block it is given. -/
theorem live_at (h : InRange m) (b : Fin 288) : (V m (0 : Dev nD) main_v11 : IVec S288 32) (ix1 b) = expertOf m (liveBlock h b) := by
  rw [V_main_v11]
  refine Routing.gather_take1 _ rfl rfl rfl rfl _ _ b (liveBlock h b) ?_ (by decide)
  have hmin : minsi (iotaInDim S288 32 0) (broadcastInDim S288 ![] bcast_S_S288 (subi (shapeCast S_ (m (((0 : Dev nD) : Thread nD τ).loc main_arg1) : IVec S1 32) shapeCasts_S1_S_) (constantI S_ 32 1#32))) (ix1 b)
      = BitVec.ofNat 32 (liveBlock h b).val := by
    show IntOp.minsi (BitVec.ofNat 32 b.val) (IntOp.subi (shapeCast S_ _ _ _) 1#32) = _
    rw [used_scalar]
    exact min_word h b.val b.isLt
  rw [col_at]
  have hl := (liveBlock h b).isLt
  show Scalar.select (IntOp.cmpi .slt (minsi (iotaInDim S288 32 0) _ (ix1 b)) 0#32) _ (minsi (iotaInDim S288 32 0) _ (ix1 b)) = _
  rw [hmin, cmpi_slt_ofNat (by omega) (by decide)]
  rfl

/-! ## The blocks the index maps name -/

/-- The packed activations' block: the block whose expert the point is given. -/
theorem hid_index (h : InRange m) (i : grid0.Coords) (h1 h2) :
    cc0_transform_0 h1 h2 (tbl m) i = ![min (i 1).val ((usedCount m).toNat - 1), 0] := by
  have hi : (i 1).val < 288 := (i 1).isLt
  have e : (tbl m).at 1 (Rect.unit (s := S1) ![0] S1.size h1) h2 = usedCount m := by
    show V m (0 : Dev nD) main_arg1 _ = _
    rw [V_main_arg1]
    exact congrArg (m (((0 : Dev nD) : Thread nD τ).loc main_arg1) : IVec S1 32) (one_idx _ _)
  unfold cc0_transform_0
  show ![(IntOp.minsi (BitVec.ofNat 32 (i 1).val) (IntOp.subi ((tbl m).at 1 (Rect.unit (s := S1) ![0] S1.size h1) h2) 1#32)).toNat, (0#32).toNat] = _
  rw [e, min_word h _ hi, BitVec.toNat_ofNat, Nat.mod_eq_of_lt (by omega)]
  rfl

/-- The looked-up word at a point. -/
theorem live_word (h : InRange m) (i : grid0.Coords) (hb) (h2) :
    (tbl m).at 2 (Rect.unit (s := S288) ![(Scalar.indexCast (BitVec.ofNat 32 (i 1).val) : Index).toNat] S1.size hb) h2
      = expertOf m (liveBlock h ⟨(i 1).val, (i 1).isLt⟩) := by
  have hi : (i 1).val < 288 := (i 1).isLt
  rw [← live_at h]
  refine congrArg (V m (0 : Dev nD) main_v11 : IVec S288 32) (vec_idx _ _ ?_)
  show (BitVec.ofNat 32 (i 1).val).toNat + _ = (i 1).val
  rw [BitVec.toNat_ofNat, Nat.mod_eq_of_lt (by omega)]
  simp

/-- The weight's block: the expert the point is given. -/
theorem w_index (h : InRange m) (i : grid0.Coords) (h1 h2) :
    cc0_transform_1 h1 h2 (tbl m) i = ![(expertOf m (liveBlock h ⟨(i 1).val, (i 1).isLt⟩)).toNat, 0, 0] := by
  unfold cc0_transform_1
  have h0 : (i 0).val = 0 := by have : (i 0).val < 1 := (i 0).isLt; omega
  refine (congrArg (fun w : BitVec 32 => ![w.toNat, 0, (BitVec.ofNat 32 (i 0).val).toNat]) (live_word h i (h1 i) h2)).trans ?_
  rw [h0]
  rfl

/-- The bias's block: the same. -/
theorem b_index (h : InRange m) (i : grid0.Coords) (h1 h2) :
    cc0_transform_2 h1 h2 (tbl m) i = ![(expertOf m (liveBlock h ⟨(i 1).val, (i 1).isLt⟩)).toNat, 0, 0] := by
  unfold cc0_transform_2
  have h0 : (i 0).val = 0 := by have : (i 0).val < 1 := (i 0).isLt; omega
  refine (congrArg (fun w : BitVec 32 => ![w.toNat, 0, (BitVec.ofNat 32 (i 0).val).toNat]) (live_word h i (h1 i) h2)).trans ?_
  rw [h0]
  rfl

/-- Every block an index map names lies inside its array. -/
theorem ok_of_inRange (h : InRange m) : Ok m := by
  refine ⟨fun i => ⟨?_, Or.inl rfl⟩, fun i => ⟨?_, Or.inl rfl⟩, fun i => ⟨?_, Or.inl rfl⟩⟩
  · intro a
    rw [hid_index h]
    have hi : (i 1).val < 288 := (i 1).isLt
    fin_cases a
    · show (min (i 1).val _ + 1) * 128 ≤ 36864; omega
    · show (0 + 1) * 2048 ≤ 2048; omega
  · intro a
    rw [w_index h]
    have he := h.expert_lt (liveBlock h ⟨(i 1).val, (i 1).isLt⟩)
    fin_cases a
    · show ((expertOf m (liveBlock h ⟨(i 1).val, (i 1).isLt⟩)).toNat + 1) * 1 ≤ 32; omega
    · show (0 + 1) * 2048 ≤ 2048; omega
    · show (0 + 1) * 2048 ≤ 2048; omega
  · intro a
    rw [b_index h]
    have he := h.expert_lt (liveBlock h ⟨(i 1).val, (i 1).isLt⟩)
    fin_cases a
    · show ((expertOf m (liveBlock h ⟨(i 1).val, (i 1).isLt⟩)).toNat + 1) * 1 ≤ 32; omega
    · show (0 + 1) * 1 ≤ 1; omega
    · show (0 + 1) * 2048 ≤ 2048; omega

/-- A point's second coordinate is the block it works on. -/
theorem point_block (t : Fin grid0.N) : (grid0.coords t 1).val = t.val := by
  have ht : t.val < 288 := lt_of_lt_of_eq t.isLt N_0
  have e : (grid0.coords t 1).val = t.val / 1 % 288 := Pipeline.Grid.coords_val t 1 (by decide) rfl
  rw [e]; omega

/-- The block a point works on. -/
def blockOf (t : Fin grid0.N) : Fin 288 := ⟨t.val, lt_of_lt_of_eq t.isLt N_0⟩

theorem coord_block (t : Fin grid0.N) : (⟨(grid0.coords t 1).val, (grid0.coords t 1).isLt⟩ : Fin 288) = blockOf t := Fin.ext (point_block t)

/-- The expert of the weight and bias a point is given. -/
def expertAt (h : InRange m) (t : Fin grid0.N) : Fin 32 := ⟨(expertOf m (liveBlock h (blockOf t))).toNat, h.expert_lt _⟩

/-- The weight a point is given: its expert's. -/
theorem w_block (h : InRange m) (hO : Ok m) (t : Fin (cfgM m hO).N) (z : Fin 1) (k l : Fin 2048) :
    wAt m hO (0 : Dev nD) t (ix3 z k l)
      = (m (((0 : Dev nD) : Thread nD τ).loc main_arg3) : FVec F S32x2048x2048 .f32) (ix3 (expertAt h t) k l) := by
  have hz : z.val = 0 := by have := z.isLt; omega
  show V m (0 : Dev nD) main_arg3 (((View.whole main_arg3).slice ((win0 (adm m hO) 1).rect t)).emb (ix3 z k l)) = _
  rw [V_main_arg3]
  refine congrArg (m (((0 : Dev nD) : Thread nD τ).loc main_arg3) : FVec F S32x2048x2048 .f32) ?_
  have hi : ((win0 (adm m hO) 1).index t : Fin 3 → ℕ) = ![(expertAt h t).val, 0, 0] := by
    refine (w_index h (grid0.coords t) _ _).trans ?_
    rw [coord_block]; rfl
  funext a
  apply Fin.ext
  refine (ValueKit.view_emb_slice_whole_unit_val main_arg3 _ _ _ (ix3 z k l) a).trans ?_
  show (win0 (adm m hO) 1).index t a * (spec0_1.size a) + (ix3 z k l a).val = (ix3 (expertAt h t) k l a).val
  rw [show (win0 (adm m hO) 1).index t a = (![(expertAt h t).val, 0, 0] : Fin 3 → ℕ) a from congrFun hi a]
  fin_cases a
  · show (expertAt h t).val * 1 + z.val = (expertAt h t).val; omega
  · show 0 * 2048 + k.val = k.val; omega
  · show 0 * 2048 + l.val = l.val; omega

/-- The bias a point is given: its expert's row. -/
theorem b_block (h : InRange m) (hO : Ok m) (t : Fin (cfgM m hO).N) (z z' : Fin 1) (l : Fin 2048) :
    biasAt m hO (0 : Dev nD) t (ix3 z z' l)
      = (m (((0 : Dev nD) : Thread nD τ).loc main_arg4) : FVec F S32x2048 .f32) (ix2 (expertAt h t) l) := by
  have hz : z.val = 0 := by have := z.isLt; omega
  have hz' : z'.val = 0 := by have := z'.isLt; omega
  show V m (0 : Dev nD) main_v12 (((View.whole main_v12).slice ((win0 (adm m hO) 2).rect t)).emb (ix3 z z' l)) = _
  have hi : ((win0 (adm m hO) 2).index t : Fin 3 → ℕ) = ![(expertAt h t).val, 0, 0] := by
    refine (b_index h (grid0.coords t) _ _).trans ?_
    rw [coord_block]; rfl
  have e : ((View.whole main_v12).slice ((win0 (adm m hO) 2).rect t)).emb (ix3 z z' l) = (ix3 (expertAt h t) (0 : Fin 1) l : S32x1x2048.Idx) := by
    funext a
    apply Fin.ext
    refine (ValueKit.view_emb_slice_whole_unit_val main_v12 _ _ _ (ix3 z z' l) a).trans ?_
    show (win0 (adm m hO) 2).index t a * (spec0_2.size a) + (ix3 z z' l a).val = (ix3 (expertAt h t) (0 : Fin 1) l a).val
    rw [show (win0 (adm m hO) 2).index t a = (![(expertAt h t).val, 0, 0] : Fin 3 → ℕ) a from congrFun hi a]
    fin_cases a
    · show (expertAt h t).val * 1 + z.val = (expertAt h t).val; omega
    · show 0 * 1 + z'.val = 0; omega
    · show 0 * 2048 + l.val = l.val; omega
  rw [e, V_main_v12]
  pointwise

/-- The packed activations a point is given: those of its block when used, of the last used block otherwise. -/
theorem hid_block (h : InRange m) (hO : Ok m) (t : Fin (cfgM m hO).N) (r : Fin 128) (l : Fin 2048) (q : Fin 36864)
    (hq : q.val = 128 * (liveBlock h (blockOf t)).val + r.val) :
    hidAt m hO (0 : Dev nD) t (ix2 r l) = (m (((0 : Dev nD) : Thread nD τ).loc main_arg2) : IVec S36864x2048 32) (ix2 q l) := by
  show V m (0 : Dev nD) main_arg2 (((View.whole main_arg2).slice ((win0 (adm m hO) 0).rect t)).emb (ix2 r l)) = _
  rw [V_main_arg2]
  refine congrArg (m (((0 : Dev nD) : Thread nD τ).loc main_arg2) : IVec S36864x2048 32) ?_
  have hi : ((win0 (adm m hO) 0).index t : Fin 2 → ℕ) = ![(liveBlock h (blockOf t)).val, 0] := by
    refine (hid_index h (grid0.coords t) _ _).trans ?_
    rw [point_block]; rfl
  funext a
  apply Fin.ext
  refine (ValueKit.view_emb_slice_whole_unit_val main_arg2 _ _ _ (ix2 r l) a).trans ?_
  show (win0 (adm m hO) 0).index t a * (spec0_0.size a) + (ix2 r l a).val = (ix2 q l a).val
  rw [show (win0 (adm m hO) 0).index t a = (![(liveBlock h (blockOf t)).val, 0] : Fin 2 → ℕ) a from congrFun hi a]
  fin_cases a
  · show (liveBlock h (blockOf t)).val * 128 + r.val = q.val; omega
  · show 0 * 2048 + l.val = l.val; omega

/-- The number of used blocks as the body reads it. -/
theorem used_word (c : Dev nD) : usedW c (tb1 m c) = usedCount m := by
  obtain rfl : c = 0 := Subsingleton.elim _ _
  show (V m (0 : Dev nD) main_arg1 : IVec S1 32) _ = _
  rw [V_main_arg1]
  exact congrArg (m (((0 : Dev nD) : Thread nD τ).loc main_arg1) : IVec S1 32) (one_idx _ _)

/-- A point's block is used exactly when it is among the first used ones. -/
theorem usedAt_iff (h : InRange m) (hO : Ok m) (c : Dev nD) (t : Fin (cfgM m hO).N) :
    UsedAt m hO c t ↔ (blockOf t).val < (usedCount m).toNat := by
  have hu := h.used_le
  have hb : (blockOf t).val < 288 := (blockOf t).isLt
  have ec : (grid0.coords t 1).val = (blockOf t).val := point_block t
  refine (cond1_iff _ _).trans ?_
  rw [used_word, ec, toInt_small (by omega), WordCmp.toInt_eq_toNat_of_lt_half (x := usedCount m) (by omega)]
  omega

/-- A word of the experts' table as the body reads it. -/
theorem expert_word (c : Dev nD) (off : Fin 1 → ℕ) (inb) (b : Fin 288) (hb : off 0 = b.val) :
    (View.readAt (Elt F) tbM0_0.view (Rect.unit (s := S288) off S1.size inb).toLoadRect (tb0 m c) (Shape.Idx.first (show 0 < S1.numel by decide)) : BitVec 32)
      = expertOf m b := by
  obtain rfl : c = 0 := Subsingleton.elim _ _
  show (V m (0 : Dev nD) main_arg0 : IVec S288 32) _ = _
  rw [V_main_arg0]
  refine congrArg (m (((0 : Dev nD) : Thread nD τ).loc main_arg0) : IVec S288 32) (vec_idx _ _ ?_)
  show off 0 + _ = b.val
  rw [hb]
  simp

/-- The first block casts its weight, whatever the two words. -/
theorem changed_first (x y : BitVec 32) :
    Scalar.cmpi .ne (Scalar.extui (Scalar.ori (BitVec.ofBool true) (Scalar.cmpi .ne x y)) : BitVec 32) 0#32 = 1#1 := by
  have h : ∀ z : BitVec 1, Scalar.cmpi .ne (Scalar.extui (Scalar.ori (BitVec.ofBool true) z) : BitVec 32) 0#32 = 1#1 := by decide
  exact h _

/-- A block that keeps the weight is not the first, and has the expert of the block before. -/
theorem kept (c : Dev nD) (t : Fin grid0.N) (hk : ¬ changedW c (grid0.coords t) (tb0 m c) = 1#1) :
    0 < t.val ∧ ∀ b : Fin 288, b.val + 1 = t.val → expertOf m b = expertOf m (blockOf t) := by
  have ht : t.val < 288 := lt_of_lt_of_eq t.isLt N_0
  have ec : (grid0.coords t 1).val = t.val := point_block t
  unfold changedW at hk
  rw [ec] at hk
  have e2 : k0_off2 (grid0.coords t) 0 = (blockOf t).val := by
    show (BitVec.ofNat 32 (grid0.coords t 1).val).toNat = t.val
    rw [ec, BitVec.toNat_ofNat, Nat.mod_eq_of_lt (by omega)]
  rw [expert_word c (k0_off2 (grid0.coords t)) (k0_off2_inb _) (blockOf t) e2] at hk
  have e0 : Scalar.cmpi .eq (BitVec.ofNat 32 t.val) 0#32 = BitVec.ofBool (decide (t.val = 0)) := by
    show IntOp.cmpi .eq (BitVec.ofNat 32 t.val) (BitVec.ofNat 32 0) = _
    rw [cmpi_eq_eq]
    congr 1
    exact decide_eq_decide.mpr (ofNat_eq_ofNat_iff (by omega) (by omega))
  rw [e0] at hk
  by_cases h0 : t.val = 0
  · exfalso
    apply hk
    rw [decide_eq_true h0]
    exact changed_first _ _
  · refine ⟨by omega, fun b hb => ?_⟩
    have e3 : k0_off3 (grid0.coords t) 0 = b.val := by
      show (IntOp.maxsi (IntOp.subi (BitVec.ofNat 32 (grid0.coords t 1).val) 1#32) 0#32).toNat = b.val
      rw [ec]
      have es : IntOp.subi (BitVec.ofNat 32 t.val) 1#32 = BitVec.ofNat 32 b.val := by
        apply BitVec.eq_of_toNat_eq
        show (BitVec.ofNat 32 t.val - 1#32).toNat = _
        rw [BitVec.toNat_sub, BitVec.toNat_ofNat, BitVec.toNat_ofNat, BitVec.toNat_ofNat]
        omega
      rw [es]
      have eb := toInt_small (a := b.val) (by omega)
      have hz : (0#32 : BitVec 32).toInt = 0 := by decide
      unfold IntOp.maxsi
      split
      · rw [BitVec.toNat_ofNat, Nat.mod_eq_of_lt (by omega)]
      · rename_i hn
        simp only [BitVec.sle, BitVec.slt, eb, hz, decide_eq_true_eq] at hn
        show 0 = b.val
        omega
    rw [expert_word c (k0_off3 (grid0.coords t)) (k0_off3_inb _) b e3, decide_eq_false h0] at hk
    by_contra hne
    apply hk
    rw [show Scalar.cmpi .ne (expertOf m (blockOf t)) (expertOf m b) = 1#1 from by
      show IntOp.cmpi .ne _ _ = _
      rw [cmpi_ne_eq, ofBool_decide_eq_one_iff]; exact fun e => hne e.symm]
    decide

/-- A used block keeps the weight only after a used block with the same weight. -/
theorem steady_of_inRange (h : InRange m) (hO : Ok m) : Steady m hO := by
  intro c t hu hk
  obtain rfl : c = 0 := Subsingleton.elim _ _
  obtain ⟨hp, he⟩ := kept (m := m) (0 : Dev nD) t hk
  have hu' := (usedAt_iff h hO _ t).1 hu
  have hbt : (blockOf t).val = t.val := rfl
  have ht := t.isLt
  refine ⟨⟨t.val - 1, by omega⟩, by show t.val - 1 + 1 = t.val; omega, (usedAt_iff h hO _ _).2 (by show t.val - 1 < _; omega), ?_⟩
  have hl : ∀ s : Fin grid0.N, s.val ≤ t.val → liveBlock h (blockOf s) = blockOf s := fun s hs => by
    apply Fin.ext
    show min s.val _ = s.val
    omega
  have hx : expertAt h (⟨t.val - 1, by omega⟩ : Fin grid0.N) = expertAt h t := by
    apply Fin.ext
    show (expertOf m (liveBlock h _)).toNat = (expertOf m (liveBlock h _)).toNat
    rw [hl _ (by show t.val - 1 ≤ t.val; omega), hl _ le_rfl, he _ (by show t.val - 1 + 1 = t.val; omega)]
  funext y
  have ey : y = ix3 (y 0) (y 1) (y 2) := by
    funext a; fin_cases a <;> rfl
  have e1 := w_block h hO ⟨t.val - 1, by omega⟩ (y 0) (y 1) (y 2)
  rw [hx] at e1
  rw [ey]
  exact e1.trans (w_block h hO t (y 0) (y 1) (y 2)).symm

end Cert.Kernel4Ideal.Gen

end
-- ==== Proof.DownValue.lean ====
module

public import proofs.«01_k».proof.Proof.DownTable
public import Idealize.ShloMosaic.Lib.BitcastPair

@[expose] public section

set_option maxRecDepth 16384

/-! The result array of the down projection, as one function of its arguments. -/

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

/-- The bf16 half of a packed word: row `R` is half `R % 2` of the packed row `R / 2`. -/
def halfOf (x : S36864x2048.Idx → BitVec 32) (R : Fin 73728) (k : Fin 2048) : EReal :=
  Ideal.ofBits .bf16 ((x (ix2 (⟨R.val / 2, by omega⟩ : Fin 36864) k)).extractLsb' (16 * (R.val % 2)) 16)

/-- The expert of the block row `R` lies in. -/
def expertRow (be : S288.Idx → BitVec 32) (R : Fin 73728) : Fin 32 :=
  ⟨(be (ix1 (⟨R.val / 256, by omega⟩ : Fin 288))).toNat % 32, Nat.mod_lt _ (by decide)⟩

/-- The down projection at row `R` and column `q`: the row times its block's expert's weight, plus that expert's bias,
    where the block is used; zero elsewhere. -/
def downAt (be : S288.Idx → BitVec 32) (nu : S1.Idx → BitVec 32) (x : S36864x2048.Idx → BitVec 32)
    (w : S32x2048x2048.Idx → EReal) (b : S32x2048.Idx → EReal) (R : Fin 73728) (q : Fin 2048) : EReal :=
  if R.val / 256 < (nu (ix1 (0 : Fin 1))).toNat then
    (∑ k : Fin 2048, halfOf x R k * w (ix3 (expertRow be R) k q)) + b (ix2 (expertRow be R) q)
  else 0

/-- Half `r % 2` of packed row `r / 2` of a block is row `r` of the block unpacked. -/
theorem unpacked (v : Vec Ideal S128x2048 .i32) (r : Fin 256) (k : Fin 2048) :
    (bitcastToFloat (F := Ideal) .bf16 (bitcast S256x2048 16 v bitcasts_S128x2048_w32_S256x2048_w16) : FVec Ideal S256x2048 .bf16) (ix2 r k)
      = Ideal.ofBits .bf16 ((v (ix2 (⟨r.val / 2, by omega⟩ : Fin 128) k)).extractLsb' (16 * (r.val % 2)) 16) := by
  show Ideal.ofBits .bf16 (bitcast S256x2048 16 v bitcasts_S128x2048_w32_S256x2048_w16 (ix2 r k)) = _
  rw [bitcast_32_16]
  have hr : S256x2048.row (ix2 r k) = r.val := rfl
  have e : (bitcasts_S128x2048_w32_S256x2048_w16).srcIdx (ix2 r k) (S256x2048.row (ix2 r k) / 2) (fun a ha => by
      have := (bitcasts_S128x2048_w32_S256x2048_w16).pos_lt (ix2 r k) 0 (by decide) a ha; omega)
      = (ix2 (⟨r.val / 2, by omega⟩ : Fin 128) k : S128x2048.Idx) := by
    funext a
    apply Fin.ext
    fin_cases a <;> rfl
  rw [e, hr]

/-- A block's product with a weight and its bias, at a row and column. -/
theorem product (v : Vec Ideal S128x2048 .i32) (w : Vec Ideal S1x2048x2048 .f32) (b : Vec Ideal S1x1x2048 .f32) (r : Fin 256) (q : Fin 2048) :
    k0_pay2 (F := Ideal) v (k0_pay1 w) b (ix2 r q)
      = (∑ k : Fin 2048, Ideal.ofBits .bf16 ((v (ix2 (⟨r.val / 2, by omega⟩ : Fin 128) k)).extractLsb' (16 * (r.val % 2)) 16)
          * w (ix3 (0 : Fin 1) k q)) + b (ix3 (0 : Fin 1) (0 : Fin 1) q) := by
  have hu := unpacked v r
  unfold k0_pay2
  generalize (bitcastToFloat (F := Ideal) .bf16 (bitcast S256x2048 16 v bitcasts_S128x2048_w32_S256x2048_w16) : FVec Ideal S256x2048 .bf16) = X at hu ⊢
  simp only [← hu]
  pointwise [k0_pay1]

variable (m : (ℓ : Loc nD τ sig) → Buf (Elt Ideal) ℓ)

/-- What a point leaves in its result block, at a row and column of the block. -/
theorem point (h : InRange m) (hO : Ok m) (t : Fin (cfgM m hO).N) (r : Fin 256) (q : Fin 2048) (R : Fin 73728) (hR : R.val = 256 * t.val + r.val) :
    outAt m hO (0 : Dev nD) t (ix2 r q)
      = downAt (m (((0 : Dev nD) : Thread nD τ).loc main_arg0)) (m (((0 : Dev nD) : Thread nD τ).loc main_arg1))
          (m (((0 : Dev nD) : Thread nD τ).loc main_arg2)) (m (((0 : Dev nD) : Thread nD τ).loc main_arg3))
          (m (((0 : Dev nD) : Thread nD τ).loc main_arg4)) R q := by
  have hb : R.val / 256 = t.val := by omega
  have hlt : t.val < 288 := (blockOf t).isLt
  unfold outAt downAt
  by_cases hu : UsedAt m hO (0 : Dev nD) t
  · have hn : t.val < (usedCount m).toNat := (usedAt_iff h hO _ t).1 hu
    have hn' : R.val / 256 < ((m (((0 : Dev nD) : Thread nD τ).loc main_arg1) : IVec S1 32) (ix1 (0 : Fin 1))).toNat := by
      show R.val / 256 < (usedCount m).toNat; omega
    rw [if_pos hu, if_pos hn', product]
    have hl : liveBlock h (blockOf t) = blockOf t := by
      apply Fin.ext
      show min t.val _ = t.val
      omega
    have he : expertAt h t = expertRow (m (((0 : Dev nD) : Thread nD τ).loc main_arg0)) R := by
      apply Fin.ext
      show (expertOf m (liveBlock h (blockOf t))).toNat = (expertOf m ⟨R.val / 256, _⟩).toNat % 32
      rw [hl, show (⟨R.val / 256, by omega⟩ : Fin 288) = blockOf t from Fin.ext hb, Nat.mod_eq_of_lt (h.expert_lt _)]
    rw [b_block h hO t, he]
    refine congrArg₂ (· + ·) (Finset.sum_congr rfl fun k _ => ?_) rfl
    rw [w_block h hO t, he, hid_block h hO t _ k (⟨R.val / 2, by omega⟩ : Fin 36864) (by rw [hl]; show R.val / 2 = 128 * t.val + r.val / 2; omega)]
    unfold halfOf
    rw [show R.val % 2 = r.val % 2 by omega]
  · have hn : ¬ t.val < (usedCount m).toNat := fun hlt => hu ((usedAt_iff h hO _ t).2 hlt)
    have hn' : ¬ R.val / 256 < ((m (((0 : Dev nD) : Thread nD τ).loc main_arg1) : IVec S1 32) (ix1 (0 : Fin 1))).toNat := by
      show ¬ R.val / 256 < (usedCount m).toNat; omega
    rw [if_neg hu, if_neg hn']
    unfold k0_pay3
    pointwise

/-- The down projection as an array of the arguments' contents. -/
def downArr : FVec Ideal S73728x2048 .f32 := fun j =>
  downAt (m (((0 : Dev nD) : Thread nD τ).loc main_arg0)) (m (((0 : Dev nD) : Thread nD τ).loc main_arg1)) (m (((0 : Dev nD) : Thread nD τ).loc main_arg2))
    (m (((0 : Dev nD) : Thread nD τ).loc main_arg3)) (m (((0 : Dev nD) : Thread nD τ).loc main_arg4)) (j 0) (j 1)

/-- The result block's index at a point: the point itself. -/
theorem out_index (a : (pcfg0 (F := Ideal)).Adm) (t : Fin grid0.N) : ((win0 a 3).index t : Fin 2 → ℕ) = ![t.val, 0] := by
  have ht : t.val < 288 := lt_of_lt_of_eq t.isLt N_0
  have h0 : (grid0.coords t 0).val = 0 := by have : (grid0.coords t 0).val < 1 := (grid0.coords t 0).isLt; omega
  show cc0_transform_3 (grid0.coords t) = _
  unfold cc0_transform_3
  rw [point_block, h0]
  show ![(BitVec.ofNat 32 t.val).toNat, 0] = _
  rw [BitVec.toNat_ofNat, Nat.mod_eq_of_lt (by omega)]

/-- The result's blocks fill its array. -/
theorem out_covers (a : (pcfg0 (F := Ideal)).Adm) : ((cfg0 a).win 3).Covers := by
  refine ⟨fun b => ?_, fun β => ?_⟩
  · fin_cases b
    · show 0 < 256; decide
    · show 0 < 2048; decide
  · have hb0 : (β (0 : Fin 2)).val < 288 := lt_of_lt_of_eq (β (0 : Fin 2)).isLt (show ((cfg0 a).win 3).nblk (0 : Fin 2) = 288 from (show (73728 + 256 - 1) / 256 = 288 by norm_num))
    have hb1 : (β (1 : Fin 2)).val < 1 := lt_of_lt_of_eq (β (1 : Fin 2)).isLt (show ((cfg0 a).win 3).nblk (1 : Fin 2) = 1 from (show (2048 + 2048 - 1) / 2048 = 1 by norm_num))
    have hN : grid0.N = 288 := N_0
    refine ⟨(⟨(β (0 : Fin 2)).val, by omega⟩ : Fin grid0.N), ?_, fun b => ⟨?_, Or.inl rfl⟩⟩
    · unfold Pipeline.Window.flush
      rw [Bool.and_eq_true]
      refine ⟨rfl, ?_⟩
      by_cases hl : (β (0 : Fin 2)).val + 1 = grid0.N
      · rw [Bool.or_eq_true]; left; exact decide_eq_true hl
      · rw [Bool.or_eq_true]; right
        refine decide_eq_true ⟨(by show (β (0 : Fin 2)).val + 1 < grid0.N; omega), fun e => ?_⟩
        have e1 := (out_index a _).symm.trans (e.trans (out_index a _))
        have e2 : (β (0 : Fin 2)).val + 1 = (β (0 : Fin 2)).val := congrFun e1 0
        omega
    · refine (congrFun (out_index a _) b).trans ?_
      fin_cases b
      · rfl
      · show 0 = (β (1 : Fin 2)).val; omega

attribute [local irreducible] outAt in
/-- The array the call leaves: the down projection at every row and column. -/
theorem final (h : InRange m) (hO : Ok m) : (dats m hO 0 (0 : Dev nD)).arrAt 3 (cfgM m hO).N = downArr m := by
  refine (dats m hO 0 (0 : Dev nD)).arrAt_eq_of_covers 3 _ (out_covers _) fun t _ y => ?_
  have ht : t.val < 288 := lt_of_lt_of_eq t.isLt N_0
  rw [after0_3]
  have y0 : (y (0 : Fin 2)).val < 256 := (y (0 : Fin 2)).isLt
  have y1 : (y (1 : Fin 2)).val < 2048 := (y (1 : Fin 2)).isLt
  refine Eq.trans ?_ ((point m h hO t ⟨(y (0 : Fin 2)).val, y0⟩ ⟨(y (1 : Fin 2)).val, y1⟩ ⟨256 * t.val + (y (0 : Fin 2)).val, by omega⟩ rfl).trans ?_)
  · refine (cast_eq _ _).trans (congrArg (outAt m hO (0 : Dev nD) t) ?_)
    funext b; fin_cases b <;> rfl
  · have e : ((View.whole main_v13).slice ((win0 (adm m hO) 3).rect t)).emb y
        = (ix2 (⟨256 * t.val + (y (0 : Fin 2)).val, by omega⟩ : Fin 73728) (⟨(y (1 : Fin 2)).val, y1⟩ : Fin 2048) : S73728x2048.Idx) := by
      funext b
      apply Fin.ext
      refine (ValueKit.view_emb_slice_whole_unit_val main_v13 _ _ _ y b).trans ?_
      show (win0 (adm m hO) 3).index t b * (spec0_3.size b) + (y b).val = _
      rw [show (win0 (adm m hO) 3).index t b = (![t.val, 0] : Fin 2 → ℕ) b from congrFun (out_index _ t) b]
      fin_cases b
      · show t.val * 256 + (y (0 : Fin 2)).val = 256 * t.val + (y (0 : Fin 2)).val; omega
      · show 0 * 2048 + (y (1 : Fin 2)).val = (y (1 : Fin 2)).val; omega
    exact (congrArg (downArr m) e).symm

end Cert.Kernel4Ideal.Value

end
-- ==== Proof.DownRef.lean ====
module

public import proofs.«01_k».proof.Proof.Gen.Reference4Ideal.Run
public import proofs.«01_k».proof.Proof.DownValue

@[expose] public section

set_option maxRecDepth 16384

/-! The down projection's array is what its reference's operations compute. -/

noncomputable section

open Idealize.ShloMosaic Idealize.ShloMosaic.TcCoe Idealize.SL.Sem

namespace Cert.Reference4Ideal.Value

open Cert.Reference4Ideal Cert.Reference4Ideal.Gen

/-- A stack of square weights gathered by a column of expert numbers, at an entry: the entry of the expert's weight. -/
theorem gather_weight {α : Type} (x : S32x2048x2048.Idx → α) (idx : IVec S288x1 32) (b : Fin 288) (k l : Fin 2048) (e : Fin 32)
    (he : idx (ix2 b (0 : Fin 1)) = BitVec.ofNat 32 e.val) :
    Host.gather gather_S32x2048x2048_S288x1_S288x2048x2048_12_0_n_n_0_1_120482048 x idx (ix3 b k l) = x (ix3 e k l) := by
  unfold Host.gather
  refine congrArg x (funext fun a => Fin.ext ?_)
  set d := gather_S32x2048x2048_S288x1_S288x2048x2048_12_0_n_n_0_1_120482048 with hd
  show d.start (ix3 b k l) idx a + d.batchCoord (ix3 b k l) a + d.offCoord (ix3 b k l) a = (ix3 e k l a).val
  rw [d.batchCoord_eq_zero _ _ (by rw [hd]; exact List.not_mem_nil), Nat.add_zero]
  have hel := e.isLt
  match a with
  | ⟨0, _⟩ =>
    show d.start (ix3 b k l) idx (0 : Fin 3) + d.offCoord (ix3 b k l) (0 : Fin 3) = e.val
    rw [d.offCoord_eq_zero _ _ (fun h => ((d.mem_sKept _).1 h).1 (by rw [hd]; exact List.mem_singleton.2 rfl)), Nat.add_zero]
    unfold GatherDims.start
    rw [dif_pos (show (0 : Fin 3) ∈ d.startIndexMap by rw [hd]; exact List.mem_singleton.2 rfl)]
    have hsi : ∀ q, d.siIdx (ix3 b k l) q = ix2 b (0 : Fin 1) := by
      intro q
      funext b'
      apply Fin.ext
      match b' with
      | ⟨0, _⟩ => rfl
      | ⟨1, _⟩ =>
        have h1 : ∀ y : S288x1.Idx, (y (1 : Fin 2)).val = 0 := fun y => by
          have : (y (1 : Fin 2)).val < 1 := (y (1 : Fin 2)).isLt
          omega
        exact h1 _
    rw [hsi, he, WordCmp.toInt_ofNat_of_lt (by omega)]
    show min ((e.val : Int)).toNat (32 - 1) = e.val
    omega
  | ⟨1, _⟩ =>
    show d.start (ix3 b k l) idx (1 : Fin 3) + d.offCoord (ix3 b k l) (1 : Fin 3) = k.val
    unfold GatherDims.start
    rw [dif_neg (show (1 : Fin 3) ∉ d.startIndexMap by rw [hd]; decide), Nat.zero_add]
    unfold GatherDims.offCoord
    rw [dif_pos (show (1 : Fin 3) ∈ d.sKept by rw [hd]; decide)]
    rfl
  | ⟨2, _⟩ =>
    show d.start (ix3 b k l) idx (2 : Fin 3) + d.offCoord (ix3 b k l) (2 : Fin 3) = l.val
    unfold GatherDims.start
    rw [dif_neg (show (2 : Fin 3) ∉ d.startIndexMap by rw [hd]; decide), Nat.zero_add]
    unfold GatherDims.offCoord
    rw [dif_pos (show (2 : Fin 3) ∈ d.sKept by rw [hd]; decide)]
    rfl

/-- The column of expert numbers the gathers read: an expert number in range is kept. -/
theorem expert_col (be : S288.Idx → BitVec 32) (b : Fin 288) (hb : (be (ix1 b)).toNat < 32) :
    broadcastInDim S288x1 ![0] bcast_S288_S288x1_0 (select (cmpi .slt be (broadcastInDim S288 ![] bcast_S_S288 (constantI S_ 32 0#32)))
      (addi be (broadcastInDim S288 ![] bcast_S_S288 (constantI S_ 32 32#32))) be) (ix2 b (0 : Fin 1)) = BitVec.ofNat 32 (be (ix1 b)).toNat := by
  have e : ∀ x : S288.Idx → BitVec 32, broadcastInDim S288x1 ![0] bcast_S288_S288x1_0 x (ix2 b (0 : Fin 1)) = x (ix1 b) := fun x => by
    unfold broadcastInDim
    exact congrArg x (Cert.Kernel4Ideal.Gen.vec_idx _ _ rfl)
  rw [e]
  show Scalar.select (IntOp.cmpi .slt (be (ix1 b)) 0#32) _ (be (ix1 b)) = _
  rw [WordCmp.cmpi_slt_of_lt (by omega) (by decide)]
  rw [show (0#32 : BitVec 32).toNat = 0 from rfl, decide_eq_false (Nat.not_lt_zero _), BitVec.ofNat_toNat, BitVec.setWidth_eq]
  rfl

open Cert.Kernel4Ideal.Value in
/-- The reference runs to the down projection at every row and column, its arguments unchanged. -/
theorem run_down (m : (ℓ : Loc nD τ sig) → Buf (Elt Ideal) ℓ) (ρ : Dev nD → PrngReg)
    (hbe : ∀ (c : Dev nD) (b : Fin 288), ((m ((c.tc : Thread nD τ).loc main_arg0) : IVec S288 32) (ix1 b)).toNat < 32)
    (hnu : ∀ c : Dev nD, ((m ((c.tc : Thread nD τ).loc main_arg1) : IVec S1 32) (ix1 (0 : Fin 1))).toNat ≤ 288) :
    θ_run defs (onTc (τ := τ) (main (F := Ideal))) ⟨m, fun _ => 0, ρ⟩ fun r => ∀ c : Dev nD,
      r.2.mem ((c.tc : Thread nD τ).loc main_v28) = (fun j => downAt
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run (F := Ideal) m ρ)
  clear h
  have hbe' := hbe c
  have hnu' := hnu c
  generalize m ((c.tc : Thread nD τ).loc main_arg0) = be at hbe' ⊢
  generalize m ((c.tc : Thread nD τ).loc main_arg1) = nu at hnu' ⊢
  generalize m ((c.tc : Thread nD τ).loc main_arg2) = hid
  generalize m ((c.tc : Thread nD τ).loc main_arg3) = w
  generalize m ((c.tc : Thread nD τ).loc main_arg4) = bias
  funext j
  idx_vars j
  show _ = downAt be nu hid w bias j0 j1
  have hcol := (expert_col be (⟨j0.val / 256, by omega⟩ : Fin 288) (hbe' _)).trans
    (congrArg (BitVec.ofNat 32) (Nat.mod_eq_of_lt (hbe' (⟨j0.val / 256, by omega⟩ : Fin 288))).symm
      : _ = BitVec.ofNat 32 (expertRow be j0).val)
  have hw := fun k => gather_weight w _ _ k j1 (expertRow be j0) hcol
  have hb := Routing.gather_row gather_S32x2048_S288x1_S288x2048_1_0_n_n_0_1_12048 rfl rfl rfl rfl rfl bias _ _ j1 (expertRow be j0) hcol (by decide)
  generalize hG : Host.gather gather_S32x2048x2048_S288x1_S288x2048x2048_12_0_n_n_0_1_120482048 w _ = G at hw ⊢
  generalize hH : Host.gather gather_S32x2048_S288x1_S288x2048_1_0_n_n_0_1_12048 bias _ = H at hb ⊢
  pointwise
  have hq : j0.val / 256 < 288 := by omega
  have hcmp : IntOp.cmpi CmpIPredicate.slt (BitVec.ofNat 32 (j0.val / 256)) (nu (ix1 (0 : Fin 1)))
      = BitVec.ofBool (decide (j0.val / 256 < (nu (ix1 (0 : Fin 1))).toNat)) := by
    have e : (BitVec.ofNat 32 (j0.val / 256)).toNat = j0.val / 256 := by rw [BitVec.toNat_ofNat, Nat.mod_eq_of_lt (by omega)]
    rw [WordCmp.cmpi_slt_of_lt (by rw [e]; omega) (by omega), e]
  rw [hcmp]
  unfold downAt
  by_cases hu : j0.val / 256 < (nu (ix1 (0 : Fin 1))).toNat
  · rw [if_pos hu, decide_eq_true hu]
    refine (show Scalar.select (BitVec.ofBool true) _ _ = _ from rfl).trans ?_
    refine congrArg₂ (· + ·) (Finset.sum_congr rfl fun k _ => ?_) hb
    rw [hw]
    refine congrArg (· * w (ix3 (expertRow be j0) k j1)) ?_
    unfold halfOf

    have e1 : (splits_S36864x2048_w32_S36864x2048x2_w16).drop (ix3 (⟨j0.val / 256 * 128 + j0.val % 256 / 2, by omega⟩ : Fin 36864) k (⟨j0.val % 256 % 2, by omega⟩ : Fin 2))
        = (ix2 (⟨j0.val / 2, by omega⟩ : Fin 36864) k : S36864x2048.Idx) := by
      funext a
      apply Fin.ext
      match a with
      | ⟨0, _⟩ => show j0.val / 256 * 128 + j0.val % 256 / 2 = j0.val / 2; omega
      | ⟨1, _⟩ => rfl
    have e2 : j0.val % 256 % 2 * 16 = 16 * (j0.val % 2) := by omega
    exact congrArg (Ideal.ofBits .bf16) (congrArg₂ (fun (p : S36864x2048.Idx) (l : Nat) => (hid p : BitVec 32).extractLsb' l 16) e1 e2)
  · rw [if_neg hu, decide_eq_false hu]
    refine (show Scalar.select (BitVec.ofBool false) _ _ = _ from rfl).trans ?_
    show constant (F := Ideal) S_ FTy.f32 0#32 ix0 = 0
    pointwise

end Cert.Reference4Ideal.Value

end
-- ==== Proof.UpKit.lean ====
module

public import proofs.«01_k».proof.Proof.Gen.Kernel5Ideal.Launch
public import proofs.«01_k».proof.Proof.Gen.Kernel5Ideal.Skeleton
public import Idealize.ShloMosaic.Lib.WholeRead
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Core `c`'s buffers when the kernel call is entered: as launched, then the host operations before the call. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The whole program is the host operations and then the kernel call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S288 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _
abbrev tbM0_2 : Memref sig .tc .smem S288 .i32 := Memref.whole main_v11
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1024 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2048x1024 .bf16 := Memref.whole cc0_scratch0
abbrev scM0_1 : Memref sig .tc .vmem S2048x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel5Ideal.Gen

end
-- ==== Proof.UpRun.lean ====
module

public import proofs.«01_k».proof.Proof.UpKit

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of used blocks, as the body reads it of its table. -/
def usedW (c : Dev nD) (xt1 : TbBuf0 (F := F) c tbM0_1) : BitVec 32 :=
  View.readAt (Elt F) tbM0_1.view (Rect.unit (s := S1) ![0] S1.size inb_S1_S1_0).toLoadRect xt1 (Shape.Idx.first (by decide))

/-- Whether the body casts the weight at a point: at the first block, and where the block's expert is not the one of
    the block before. -/
def changedW (c : Dev nD) (i : grid0.Coords) (xt0 : TbBuf0 (F := F) c tbM0_0) : BitVec 1 :=
  Scalar.cmpi .ne (Scalar.extui (Scalar.ori (Scalar.cmpi .eq (BitVec.ofNat 32 (i 1).val) 0#32)
    (Scalar.cmpi .ne
      (View.readAt (Elt F) tbM0_0.view (Rect.unit (s := S288) (k0_off2 i) S1.size (k0_off2_inb i)).toLoadRect xt0 (Shape.Idx.first (show 0 < S1.numel by decide)) : BitVec 32)
      (View.readAt (Elt F) tbM0_0.view (Rect.unit (s := S288) (k0_off3 i) S1.size (k0_off3_inb i)).toLoadRect xt0 (Shape.Idx.first (show 0 < S1.numel by decide)) : BitVec 32)))) 0#32

/-- A buffer read at the origin at its full extents is its whole contents. -/
theorem readAt_origin {κ : Kind} {sp : Space} {S : Shape} {e : EltTy} (M : Memref sig κ sp S e) (f : M.view.ty.Contents (Elt F))
    (off : Fin S.rank → Nat) (hoff : ∀ a, off a = 0) (inb : ∀ a, off a + S.size a ≤ S.size a) :
    View.readAt (Elt F) M.view (Rect.unit off S.size inb).toLoadRect f = M.view.read (Elt F) f := by
  funext x
  change M.view.read (Elt F) f ((Rect.unit off S.size inb).toLoadRect.idx x) = _
  congr 1
  funext a
  exact Fin.ext (by simp [LoadRect.idx, hoff])

/-- A buffer written at the origin at its full extents holds the value written. -/
theorem read_writes_origin {κ : Kind} {sp : Space} {S : Shape} {e : EltTy} (M : Memref sig κ sp S e) (f : M.view.ty.Contents (Elt F))
    (off : Fin S.rank → Nat) (hoff : ∀ a, off a = 0) (inb : ∀ a, off a + S.size a ≤ S.size a) (w : Vec F S e) :
    M.view.read (Elt F) (M.view.writes (Elt F) f [⟨Rect.unit off S.size inb, w⟩]) = w := by
  funext x
  exact View.read_writes_cons_hit_of_coords M.view f (Rect.unit off S.size inb) w [] x x (by intro a; simp [Rect.unit, hoff])

/-- What the body leaves in its first scratch, the gate's weight. -/
def gateOut (c : Dev nD) (i : grid0.Coords) (x1 : Vec F S1x2048x1024 .f32) (g : Vec F S2048x1024 .bf16)
    (xt0 : TbBuf0 (F := F) c tbM0_0) (xt1 : TbBuf0 (F := F) c tbM0_1) : Vec F S2048x1024 .bf16 :=
  if k0_cond1 i (usedW c xt1) = 1#1 then (if changedW c i xt0 = 1#1 then k0_pay3 x1 else g) else g

/-- What the body leaves in its second scratch, the up projection's weight. -/
def upOut (c : Dev nD) (i : grid0.Coords) (x2 : Vec F S1x2048x1024 .f32) (u : Vec F S2048x1024 .bf16)
    (xt0 : TbBuf0 (F := F) c tbM0_0) (xt1 : TbBuf0 (F := F) c tbM0_1) : Vec F S2048x1024 .bf16 :=
  if k0_cond1 i (usedW c xt1) = 1#1 then (if changedW c i xt0 = 1#1 then k0_pay4 x2 else u) else u

/-- What the body computes of its activations, the two weights and the two biases. -/
def swiglu (x0 : Vec F S256x1024 .i32) (g u : Vec F S2048x1024 .bf16) (x3 x4 : Vec F S1x1x1024 .f32) : Vec F S256x1024 .bf16 :=
  k0_pay1 (k0_pay6 x0 u x4) (k0_pay7 x0 g x3) (Scalar.ofBits .f32 0x40E00000#32) k0_pay8

/-- What the body leaves in its result block. -/
def resOut (c : Dev nD) (i : grid0.Coords) (x0 : Vec F S256x1024 .i32) (x1 x2 : Vec F S1x2048x1024 .f32) (x3 x4 : Vec F S1x1x1024 .f32)
    (g u : Vec F S2048x1024 .bf16) (xt0 : TbBuf0 (F := F) c tbM0_0) (xt1 : TbBuf0 (F := F) c tbM0_1) : Vec F S256x1024 .bf16 :=
  if k0_cond1 i (usedW c xt1) = 1#1 then
    swiglu x0 (if changedW c i xt0 = 1#1 then k0_pay3 x1 else g) (if changedW c i xt0 = 1#1 then k0_pay4 x2 else u) x3 x4
  else k0_pay2

/-- A comparison's bit widened and compared to zero is the bit. -/
theorem widened_ne_zero (b : Bool) : Scalar.cmpi .ne (Scalar.extui (BitVec.ofBool b) : BitVec 32) 0#32 = 1#1 ↔ b = true := by
  cases b <;> decide

/-- The first branch is taken where the block number is below the number of used blocks. -/
theorem cond1_iff (i : grid0.Coords) (v : BitVec 32) : k0_cond1 i v = 1#1 ↔ (BitVec.ofNat 32 (i 1).val).toInt < v.toInt := by
  unfold k0_cond1
  exact (widened_ne_zero _).trans decide_eq_true_iff

/-- The two branches of the body exclude each other and one is taken. -/
theorem cond3_iff (i : grid0.Coords) (v : BitVec 32) : k0_cond3 i v = 1#1 ↔ ¬ k0_cond1 i v = 1#1 := by
  rw [cond1_iff]
  unfold k0_cond3
  exact ((widened_ne_zero _).trans decide_eq_true_iff).trans not_lt.symm

set_option maxHeartbeats 1000000 in
/-- The body on any staging buffers: it leaves its inputs and tables as they were, and its scratches and result block at
    what the definitions above say. -/
theorem runX (c : Dev nD) (i : grid0.Coords) (arg5 : Memref sig .tc .vmem S256x1024 .i32) (harg5 : arg5.IsWhole) (arg6 : Memref sig .tc .vmem S1x2048x1024 .f32) (harg6 : arg6.IsWhole) (arg7 : Memref sig .tc .vmem S1x2048x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S256x1024 .bf16) (harg10 : arg10.IsWhole) (arg11 : Memref sig .tc .vmem S2048x1024 .bf16) (harg11 : arg11.IsWhole) (arg12 : Memref sig .tc .vmem S2048x1024 .bf16) (harg12 : arg12.IsWhole)
    (x0 : Vec F S256x1024 .i32) (x1 x2 : Vec F S1x2048x1024 .f32) (x3 x4 : Vec F S1x1x1024 .f32) (g u : Vec F S2048x1024 .bf16) (xt0 : TbBuf0 (F := F) c tbM0_0) (xt1 : TbBuf0 (F := F) c tbM0_1) (xt2 : TbBuf0 (F := F) c tbM0_2) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ (∃ d, owns (c : Thread nD τ) arg10 fullShare d) ∗ owns (c : Thread nD τ) arg11 fullShare g ∗ owns (c : Thread nD τ) arg12 fullShare u ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare (resOut c i x0 x1 x2 x3 x4 g u xt0 xt1) ∗ owns (c : Thread nD τ) arg11 fullShare (gateOut c i x1 g xt0 xt1) ∗ owns (c : Thread nD τ) arg12 fullShare (upOut c i x2 u xt0 xt1) ∗ tbPt0 c tbM0_0 xt0 ∗ tbPt0 c tbM0_1 xt1 ∗ tbPt0 c tbM0_2 xt2) -∗ K ⟨⟩))
          ⊢ wp frame (wpE (defs₀ (F := F)) Variants.none c none) E (cc0_ffn_up i tbM0_0 htbM0_0 tbM0_1 htbM0_1 tbM0_2 htbM0_2 arg5 harg5 arg6 harg6 arg7 harg7 arg8 harg8 arg9 harg9 arg10 harg10 arg11 harg11 arg12 harg12) K := by
    intro E K
    simp only [cc0_ffn_up_eq_skeleton]; unfold cc0_ffn_up_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
    obtain rfl := harg5.eq_unread hf0; obtain rfl := harg6.eq_unread hf1; obtain rfl := harg7.eq_unread hf2; obtain rfl := harg8.eq_unread hf3
    obtain rfl := harg9.eq_unread hf4; obtain rfl := harg11.eq_unread hfs0; obtain rfl := harg12.eq_unread hfs1
    sl_exec
    sl_step
    have eg : View.readAt (Elt F) arg11.view (Rect.unit (s := S2048x1024) ![0, 0] S2048x1024.size inb_S2048x1024_S2048x1024_0_0).toLoadRect
        (if hc : changedW c i xt0 = 1#1 then arg11.view.writes (Elt F) (harg11.unread g)
          [⟨Rect.unit ![0, 0] S2048x1024.size inb_S2048x1024_S2048x1024_0_0, k0_pay3 (View.readAt (Elt F) arg6.view
            (Rect.unit ![0, 0, 0] S1x2048x1024.size inb_S1x2048x1024_S1x2048x1024_0_0_0).toLoadRect (harg6.unread x1))⟩] else harg11.unread g)
        = (if changedW c i xt0 = 1#1 then k0_pay3 x1 else g) := by
      by_cases h : changedW c i xt0 = 1#1
      · rw [dif_pos h, if_pos h, readAt_origin arg11 _ _ (by decide), read_writes_origin _ _ _ (by decide), readAt_origin arg6 _ _ (by decide),
          harg6.read_unread]
      · rw [dif_neg h, if_neg h, readAt_origin arg11 _ _ (by decide), harg11.read_unread]
    have eu : View.readAt (Elt F) arg12.view (Rect.unit (s := S2048x1024) ![0, 0] S2048x1024.size inb_S2048x1024_S2048x1024_0_0).toLoadRect
        (if hc : changedW c i xt0 = 1#1 then arg12.view.writes (Elt F) (harg12.unread u)
          [⟨Rect.unit ![0, 0] S2048x1024.size inb_S2048x1024_S2048x1024_0_0, k0_pay4 (View.readAt (Elt F) arg7.view
            (Rect.unit ![0, 0, 0] S1x2048x1024.size inb_S1x2048x1024_S1x2048x1024_0_0_0).toLoadRect (harg7.unread x2))⟩] else harg12.unread u)
        = (if changedW c i xt0 = 1#1 then k0_pay4 x2 else u) := by
      by_cases h : changedW c i xt0 = 1#1
      · rw [dif_pos h, if_pos h, readAt_origin arg12 _ _ (by decide), read_writes_origin _ _ _ (by decide), readAt_origin arg7 _ _ (by decide),
          harg7.read_unread]
      · rw [dif_neg h, if_neg h, readAt_origin arg12 _ _ (by decide), harg12.read_unread]
    have e3 : runX.sl.r_3 c i arg5 harg5 arg7 harg7 arg9 harg9 arg12 harg12 x0 x2 x4 u xt0
        = k0_pay6 x0 (if changedW c i xt0 = 1#1 then k0_pay4 x2 else u) x4 := by
      have ev : runX.sl.v35 c i arg7 harg7 arg12 harg12 x2 u xt0 = (if changedW c i xt0 = 1#1 then k0_pay4 x2 else u) := by
        unfold runX.sl.v35; exact eu
      unfold runX.sl.r_3
      rw [ev, readAt_origin arg5 _ _ (by decide), harg5.read_unread, readAt_origin arg9 _ _ (by decide), harg9.read_unread]
    have e4 : runX.sl.r_4 c i arg5 harg5 arg6 harg6 arg8 harg8 arg11 harg11 x0 x1 x3 g xt0
        = k0_pay7 x0 (if changedW c i xt0 = 1#1 then k0_pay3 x1 else g) x3 := by
      have ev : runX.sl.v29 c i arg6 harg6 arg11 harg11 x1 g xt0 = (if changedW c i xt0 = 1#1 then k0_pay3 x1 else g) := by
        unfold runX.sl.v29; exact eg
      unfold runX.sl.r_4
      rw [ev, readAt_origin arg5 _ _ (by decide), harg5.read_unread, readAt_origin arg8 _ _ (by decide), harg8.read_unread]
    iapply Hk; isplitl [H0]
    · iexists harg5.unread x0; isplitr; · ipureintro; exact harg5.read_unread x0
      iexact H0
    isplitl [H1]
    · iexists harg6.unread x1; isplitr; · ipureintro; exact harg6.read_unread x1
      iexact H1
    isplitl [H2]
    · iexists harg7.unread x2; isplitr; · ipureintro; exact harg7.read_unread x2
      iexact H2
    isplitl [H3]
    · iexists harg8.unread x3; isplitr; · ipureintro; exact harg8.read_unread x3
      iexact H3
    isplitl [H4]
    · iexists harg9.unread x4; isplitr; · ipureintro; exact harg9.read_unread x4
      iexact H4
    isplitl [H5]
    · iexists _; isplitr; swap; · iexact H5
      ipureintro
      change View.read (Elt F) arg10.view (if hc : k0_cond3 i (usedW c xt1) = 1#1 then arg10.view.writes (Elt F) (if hc : k0_cond1 i (usedW c xt1) = 1#1 then _ else _) _ else if hc : k0_cond1 i (usedW c xt1) = 1#1 then _ else _) = _
      unfold resOut
      by_cases h : k0_cond1 i (usedW c xt1) = 1#1
      · have h3 : ¬ k0_cond3 i (usedW c xt1) = 1#1 := fun h' => (cond3_iff i _).1 h' h
        rw [dif_neg h3, dif_pos h, if_pos h]
        refine (read_writes_origin arg10 _ _ (by decide) _ _).trans ?_
        rw [e3, e4]
        rfl
      · rw [dif_pos ((cond3_iff i _).2 h), if_neg h]
        exact read_writes_origin arg10 _ _ (by decide) _ _
    isplitl [HS0]
    · iexists _; isplitr; swap; · iexact HS0
      ipureintro
      change View.read (Elt F) arg11.view (if hc : k0_cond1 i (usedW c xt1) = 1#1 then (if hc : changedW c i xt0 = 1#1 then _ else _) else _) = _
      unfold gateOut
      by_cases h : k0_cond1 i (usedW c xt1) = 1#1
      · rw [dif_pos h, if_pos h]
        by_cases h' : changedW c i xt0 = 1#1
        · rw [dif_pos h', if_pos h', read_writes_origin _ _ _ (by decide), readAt_origin arg6 _ _ (by decide), harg6.read_unread]
        · rw [dif_neg h', if_neg h', harg11.read_unread]
      · rw [dif_neg h, if_neg h, harg11.read_unread]
    isplitl [HS1]
    · iexists _; isplitr; swap; · iexact HS1
      ipureintro
      change View.read (Elt F) arg12.view (if hc : k0_cond1 i (usedW c xt1) = 1#1 then (if hc : changedW c i xt0 = 1#1 then _ else _) else _) = _
      unfold upOut
      by_cases h : k0_cond1 i (usedW c xt1) = 1#1
      · rw [dif_pos h, if_pos h]
        by_cases h' : changedW c i xt0 = 1#1
        · rw [dif_pos h', if_pos h', read_writes_origin _ _ _ (by decide), readAt_origin arg7 _ _ (by decide), harg7.read_unread]
        · rw [dif_neg h', if_neg h', harg12.read_unread]
      · rw [dif_neg h, if_neg h, harg12.read_unread]
    isplitl [HT0]; · iexact HT0
    isplitl [HT1]; · iexact HT1
    iexact HT2

end Cert.Kernel5Ideal.Gen

end
-- ==== Proof.UpFrame.lean ====
module

public import proofs.«01_k».proof.Proof.UpRun

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body at point `t`, on what the pipeline calls it with. -/
abbrev bodyAt0 (a : (pcfg0 (F := F)).Adm) (t : Fin (cfg0 a).N) : Prog (TpuEff nD τ sig (Elt F) Λ₀ .tc) PUnit :=
  cc0_ffn_up (grid0.coords t) (Memref.whole main_arg0) (Memref.isWhole_whole _) (Memref.whole main_arg1) (Memref.isWhole_whole _) (Memref.whole main_v11) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- The tables' contents, as the body finds them. -/
abbrev tb0 (c : Dev nD) : TbBuf0 (F := F) c tbM0_0 := tbl m 0
abbrev tb1 (c : Dev nD) : TbBuf0 (F := F) c tbM0_1 := tbl m 1
abbrev tb2 (c : Dev nD) : TbBuf0 (F := F) c tbM0_2 := tbl m 2

/-! ## What the points leave -/

/-- The blocks the body finds at a point: the packed activations, the two weights and the two biases. -/
abbrev xsAt (hO : Ok m) (c : Dev nD) (t : Fin (cfgM m hO).N) : Vec F S256x1024 .i32 := iblk m hO c 0 t
abbrev wgAt (hO : Ok m) (c : Dev nD) (t : Fin (cfgM m hO).N) : Vec F S1x2048x1024 .f32 := iblk m hO c 1 t
abbrev wuAt (hO : Ok m) (c : Dev nD) (t : Fin (cfgM m hO).N) : Vec F S1x2048x1024 .f32 := iblk m hO c 2 t
abbrev bgAt (hO : Ok m) (c : Dev nD) (t : Fin (cfgM m hO).N) : Vec F S1x1x1024 .f32 := iblk m hO c 3 t
abbrev buAt (hO : Ok m) (c : Dev nD) (t : Fin (cfgM m hO).N) : Vec F S1x1x1024 .f32 := iblk m hO c 4 t

/-- Whether the block of a point is used. -/
def UsedAt (hO : Ok m) (c : Dev nD) (t : Fin (cfgM m hO).N) : Prop := k0_cond1 (grid0.coords t) (usedW c (tb1 m c)) = 1#1
instance (hO : Ok m) (c : Dev nD) (t : Fin (cfgM m hO).N) : Decidable (UsedAt m hO c t) := inferInstanceAs (Decidable (_ = _))

/-- Where a used block keeps the weights of the block before, the block before is used and its weights are the same. -/
def Steady (hO : Ok m) : Prop := ∀ (c : Dev nD) (t : Fin (cfgM m hO).N), UsedAt m hO c t →
  ¬ changedW c (grid0.coords t) (tb0 m c) = 1#1 →
    ∃ s : Fin (cfgM m hO).N, s.val + 1 = t.val ∧ UsedAt m hO c s ∧ wgAt m hO c s = wgAt m hO c t ∧ wuAt m hO c s = wuAt m hO c t

/-- What a point leaves in its result block: the gated products with its own expert's weights, or zero. -/
def outAt (hO : Ok m) (c : Dev nD) (t : Fin (cfgM m hO).N) : Vec F S256x1024 .bf16 :=
  if UsedAt m hO c t then swiglu (xsAt m hO c t) (k0_pay3 (wgAt m hO c t)) (k0_pay4 (wuAt m hO c t)) (bgAt m hO c t) (buAt m hO c t) else k0_pay2

/-- The scratches before position `n`: the cast weights of the point before, if that point is used. -/
def Good (hO : Ok m) (c : Dev nD) (n : ℕ) (g u : Vec F S2048x1024 .bf16) : Prop :=
  ∀ s : Fin (cfgM m hO).N, s.val + 1 = n → UsedAt m hO c s → g = k0_pay3 (wgAt m hO c s) ∧ u = k0_pay4 (wuAt m hO c s)

/-- The scratches after a point hold that point's cast weights, if the point is used. -/
theorem good_step (hO : Ok m) (hS : Steady m hO) (c : Dev nD) (t : Fin (cfgM m hO).N) (g u : Vec F S2048x1024 .bf16)
    (hd : Good m hO c t.val g u) :
    Good m hO c (t.val + 1) (gateOut c (grid0.coords t) (wgAt m hO c t) g (tb0 m c) (tb1 m c))
      (upOut c (grid0.coords t) (wuAt m hO c t) u (tb0 m c) (tb1 m c)) := by
  intro s hs hu
  obtain rfl : s = t := Fin.ext (by omega)
  unfold gateOut upOut
  rw [if_pos (show k0_cond1 (grid0.coords s) (usedW c (tb1 m c)) = 1#1 from hu), if_pos (show k0_cond1 (grid0.coords s) (usedW c (tb1 m c)) = 1#1 from hu)]
  by_cases hc : changedW c (grid0.coords s) (tb0 m c) = 1#1
  · rw [if_pos hc, if_pos hc]
    exact ⟨rfl, rfl⟩
  · rw [if_neg hc, if_neg hc]
    obtain ⟨r, hr, hur, hg, hw⟩ := hS c s hu hc
    rw [← hg, ← hw]; exact hd r hr hur

/-- What the body leaves in its result block at a point is `outAt`. -/
theorem res_step (hO : Ok m) (hS : Steady m hO) (c : Dev nD) (t : Fin (cfgM m hO).N) (g u : Vec F S2048x1024 .bf16)
    (hd : Good m hO c t.val g u) :
    resOut c (grid0.coords t) (xsAt m hO c t) (wgAt m hO c t) (wuAt m hO c t) (bgAt m hO c t) (buAt m hO c t) g u (tb0 m c) (tb1 m c) = outAt m hO c t := by
  unfold resOut outAt
  by_cases hu : UsedAt m hO c t
  · rw [if_pos hu, if_pos (show k0_cond1 (grid0.coords t) (usedW c (tb1 m c)) = 1#1 from hu)]
    by_cases hc : changedW c (grid0.coords t) (tb0 m c) = 1#1
    · rw [if_pos hc, if_pos hc]
    · rw [if_neg hc, if_neg hc]
      obtain ⟨r, hr, hur, hg, hw⟩ := hS c t hu hc
      obtain ⟨eg, eu⟩ := hd r hr hur
      rw [eg, eu, hg, hw]
  · rw [if_neg hu, if_neg (show ¬ k0_cond1 (grid0.coords t) (usedW c (tb1 m c)) = 1#1 from hu)]

/-! ## The pipeline's proof data -/

/-- The region's invariant before position `n`. -/
def PhiAt (hO : Ok m) (c : Dev nD) (n : ℕ) : sProp 𝕄 :=
  iprop(((∃ g u, ⌜Good m hO c n g u⌝ ∗ owns (c : Thread nD τ) scM0_0 fullShare g ∗ owns (c : Thread nD τ) scM0_1 fullShare u) ∗ (∃ r, prngReg c r)) ∗ Pipeline.ΦT pre0 (tbl m) c)

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiAt m hO c t.val
  q w := Pipeline.shareOf spec0 w
  owed _ := 0

/-- The proof data's arrays are the contents at the call. -/
theorem A_eq (hO : Ok m) (c : Dev nD) (w : Fin (cfgM m hO).W) : (dats m hO 0 c).A w = V m c (Pipeline.arrRef spec0 w) := by
  dsimp only [dats]

/-- The invariant at a point. -/
theorem Phi_eq (hO : Ok m) (c : Dev nD) (n : Fin ((cfgM m hO).N + 1)) : (dats m hO 0 c).Φ n = PhiAt m hO c n.val := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

/-- Each input's staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- For any number of used blocks one of the two branches is taken. -/
theorem branch_taken (i : grid0.Coords) (v : BitVec 32) : (!(k0_cond1 i v == 1#1) && !(k0_cond3 i v == 1#1)) = false := by
  by_cases h : k0_cond1 i v = 1#1
  · simp [h]
  · simp [(cond3_iff i _).2 h]

/-- No point leaves a window's buffer alone: the inputs by the kernel's statement, the result because one of the two
    branches stores it. -/
theorem live0_0 (a : (pcfg0 (F := F)).Adm) (i : grid0.Coords) : (cfg0 a).idle 0 i = false := rfl
theorem live0_1 (a : (pcfg0 (F := F)).Adm) (i : grid0.Coords) : (cfg0 a).idle 1 i = false := rfl
theorem live0_2 (a : (pcfg0 (F := F)).Adm) (i : grid0.Coords) : (cfg0 a).idle 2 i = false := rfl
theorem live0_3 (a : (pcfg0 (F := F)).Adm) (i : grid0.Coords) : (cfg0 a).idle 3 i = false := rfl
theorem live0_4 (a : (pcfg0 (F := F)).Adm) (i : grid0.Coords) : (cfg0 a).idle 4 i = false := rfl
theorem live0_5 (a : (pcfg0 (F := F)).Adm) (i : grid0.Coords) : (cfg0 a).idle 5 i = false := by
  obtain ⟨pf, h⟩ := a
  exact branch_taken i (pf.atD 1 ![0])

/-- What the body returns of each window. -/
theorem leaves0_0 (hO : Ok m) (c : Dev nD) (t : Fin (cfgM m hO).N) : (dats m hO 0 c).leavesExact 0 t = owns (c : Thread nD τ) (ms0_0 m hO t) fullShare (iblk m hO c 0 t) := by
  rw [← after0_0]; unfold Dat.leavesExact; rw [live0_0 (adm m hO)]; rfl
theorem leaves0_1 (hO : Ok m) (c : Dev nD) (t : Fin (cfgM m hO).N) : (dats m hO 0 c).leavesExact 1 t = owns (c : Thread nD τ) (ms0_1 m hO t) fullShare (iblk m hO c 1 t) := by
  rw [← after0_1]; unfold Dat.leavesExact; rw [live0_1 (adm m hO)]; rfl
theorem leaves0_2 (hO : Ok m) (c : Dev nD) (t : Fin (cfgM m hO).N) : (dats m hO 0 c).leavesExact 2 t = owns (c : Thread nD τ) (ms0_2 m hO t) fullShare (iblk m hO c 2 t) := by
  rw [← after0_2]; unfold Dat.leavesExact; rw [live0_2 (adm m hO)]; rfl
theorem leaves0_3 (hO : Ok m) (c : Dev nD) (t : Fin (cfgM m hO).N) : (dats m hO 0 c).leavesExact 3 t = owns (c : Thread nD τ) (ms0_3 m hO t) fullShare (iblk m hO c 3 t) := by
  rw [← after0_3]; unfold Dat.leavesExact; rw [live0_3 (adm m hO)]; rfl
theorem leaves0_4 (hO : Ok m) (c : Dev nD) (t : Fin (cfgM m hO).N) : (dats m hO 0 c).leavesExact 4 t = owns (c : Thread nD τ) (ms0_4 m hO t) fullShare (iblk m hO c 4 t) := by
  rw [← after0_4]; unfold Dat.leavesExact; rw [live0_4 (adm m hO)]; rfl
theorem leaves0_5 (hO : Ok m) (c : Dev nD) (t : Fin (cfgM m hO).N) : (dats m hO 0 c).leavesExact 5 t = owns (c : Thread nD τ) (ms0_5 m hO t) fullShare (outAt m hO c t) := by
  rw [← after0_5]; unfold Dat.leavesExact; rw [live0_5 (adm m hO)]; rfl

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 1600000 in
/-- The body at any point: it finds its blocks and the scratch of the point before, and leaves `outAt` and the scratch
    the next point finds. -/
theorem sound_body (hO : Ok m) (hS : Steady m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    leaves0_0, leaves0_1, leaves0_2, leaves0_3, leaves0_4, leaves0_5, Phi_eq, Phi_eq, Fin.val_succ, Fin.val_castSucc]
  unfold PhiAt
  rw [PhiT0_eq]
  iintro ⟨⟨⟨⟨%g, %u, %hd, HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
  iapply ((runX c (grid0.coords t) _ _ _ _ _ _ _ _ _ _ _ _ _ _ _ _ (iblk m hO c 0 t) (iblk m hO c 1 t) (iblk m hO c 2 t) (iblk m hO c 3 t) (iblk m hO c 4 t) g u (tb0 m c) (tb1 m c) (tb2 m c)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  rw [res_step m hO hS c t g u hd]
  iintro ⟨H0, H1, H2, H3, H4, H5, HS0, HS1, HT0, HT1, HT2⟩
  isplitl [HS0 HS1 Hg HT0 HT1 HT2]
  · isplitl [HS0 HS1 Hg]
    · isplitl [HS0 HS1]
      · iexists _; iexists _; isplitr; swap
        · isplitl [HS0]; · iexact HS0
          iexact HS1
        ipureintro; exact good_step m hO hS c t g u hd
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

attribute [local irreducible] k0_cond1 k0_cond3 in
/-- The library's body obligation, at every point. -/
theorem body_obligation (hO : Ok m) (hS : Steady m hO) (c : Dev nD) : BodyObligation (dats (F := F) m hO 0 c) (defs₀ (F := F)) Variants.none () Set.univ := fun t => by
  rw [bigSep_W0, bigSep_W0, defs₀_row m hO]
  exact triple_restated (sound_body m hO hS c t) rfl .rfl fun _ => by
    exact .rfl

/-! ## The run and the frame -/

set_option backward.isDefEq.respectTransparency.types false in
/-- Every fair execution of the program ends, with the result array at what the points leave (`Dat.arrAt`), every
    other array as it was at the call, and every counter at zero. -/
theorem run_main_quiescent (hO : Ok m) (hS : Steady m hO) : θ_run defs (onTc (τ := τ) (main (F := F))) (s₀ m ρ) (fun r => (Pipeline.FramePost (Pipeline.pin pcfgs fun _ => adm m hO) (dats m hO) (0 : Fin 1) (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO hS c).loose) (hq := fun _ _ _ => rfl)
    (howed := fun _ _ => rfl) (V := V m) (hmain := hmain m Variants.none) (hA := A_eq m hO) (hpf := V_pre m)
    (hin := fun c => by
      rw [Phi_eq]; unfold PhiAt; refine (sep_mono (Entails.of_eq (PhiA0_eq c)) .rfl).trans ?_
      iintro ⟨⟨⟨⟨%g, HS0⟩, ⟨%u, HS1⟩⟩, Hg⟩, HT⟩
      isplitl [HS0 HS1 Hg]
      · isplitl [HS0 HS1]
        · iexists g; iexists u; isplitr; · ipureintro; intro s hs; exact absurd hs (Nat.succ_ne_zero _)
          isplitl [HS0]; · iexact HS0
          iexact HS1
        iexact Hg
      iexact HT)
    (hout := fun c => by
      rw [Phi_eq]; unfold PhiAt; refine BIBase.Entails.trans ?_ (Entails.of_eq (PhiA0_eq c).symm)
      iintro ⟨⟨⟨%g, %u, -, HS0, HS1⟩, Hg⟩, -⟩
      isplitl [HS0 HS1]
      · isplitl [HS0]
        · iexists g; iexact HS0
        iexists u; iexact HS1
      iexact Hg)

/-- The run, with the result array named and the arguments unchanged. -/
theorem run_blocks (hO : Ok m) (hS : Steady m hO) : θ_run defs (onTc (τ := τ) (main (F := F))) ⟨m, fun _ => 0, ρ⟩ (fun r =>
    (∀ c : Dev nD, r.2.mem ((c.tc : Thread nD τ).loc main_v13) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c).1 5,
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (((h.1 c).1 0).trans ((dats m hO 0 c).arrAt_in 0 rfl _)).trans (V_main_arg2 m c),
      (((h.1 c).1 1).trans ((dats m hO 0 c).arrAt_in 1 rfl _)).trans (V_main_arg3 m c),
      ((h.1 c).2 main_arg4 (by decide : main_arg4 ∈ Pipeline.restRefs sig spec0)).trans (V_main_arg4 m c)⟩, h.2⟩)
    (run_main_quiescent m ρ hO hS)

end Cert.Kernel5Ideal.Gen

end
-- ==== Proof.UpTable.lean ====
module

public import proofs.«01_k».proof.Pre_in_range_up
public import proofs.«01_k».proof.Proof.UpFrame
public import Idealize.ShloMosaic.Lib.Routing.OpsSet
public import Idealize.ShloMosaic.Lib.Pipeline.ValueKit
public import Idealize.ShloMosaic.Lib.Pointwise

@[expose] public section

set_option maxRecDepth 16384

/-! The two integer tables of the up projection under the precondition: every block's expert is one of the 32, and
between one and all 288 blocks are used. From it, the block each index map names lies inside its array, and a block that
does not cast its weights anew follows a used block with the same expert. -/

noncomputable section

namespace Cert.Kernel5Ideal.Gen

open Idealize.ShloMosaic Idealize.ShloMosaic.TcCoe Idealize.ShloMosaic.Tactic
open Idealize.ShloMosaic.WordCmp

variable {F : FTy → Type} [FloatOps F]

variable (m : (ℓ : Loc nD τ sig) → Buf (Elt F) ℓ)

/-- Two indices of a vector with one coordinate are one index. -/
theorem vec_idx {n : ℕ} (x y : (⟨1, ![n]⟩ : Shape).Idx) (h : (x 0).val = (y 0).val) : x = y := by
  funext a; obtain rfl : a = 0 := Subsingleton.elim _ _
  exact Fin.ext h

/-- A vector of one entry has one index. -/
theorem one_idx (x y : (⟨1, ![1]⟩ : Shape).Idx) : x = y := vec_idx _ _ (congrArg Fin.val (Subsingleton.elim (α := Fin 1) (x 0) (y 0)))

/-- A vector kept as a column, read at a row. -/
theorem col_at {α : Type} (x : S288.Idx → α) (b : Fin 288) : broadcastInDim S288x1 ![0] bcast_S288_S288x1_0 x (ValueIdx.ix2 b (0 : Fin 1)) = x (ix1 b) := by
  unfold broadcastInDim
  exact congrArg x (vec_idx _ _ rfl)

/-- The expert of a block, and how many blocks are used, as launched. -/
def expertOf (b : Fin 288) : BitVec 32 := (m (((0 : Dev nD) : Thread nD τ).loc main_arg0) : IVec S288 32) (ix1 b)
def usedCount : BitVec 32 := (m (((0 : Dev nD) : Thread nD τ).loc main_arg1) : IVec S1 32) (ix1 (0 : Fin 1))

/-- The tables' ranges. -/
structure InRange : Prop where
  expert_lt : ∀ b, (expertOf m b).toNat < 32
  used_pos : 1 ≤ (usedCount m).toNat
  used_le : (usedCount m).toNat ≤ 288

/-- A word at least zero and below a bound, read signed, is below the bound read as a natural number. -/
theorem toNat_lt_of_signed (x : BitVec 32) (k : ℕ) (hk : k < 2 ^ 31) (h0 : (0 : Int) ≤ x.toInt) (h1 : x.toInt < k) : x.toNat < k := by
  rw [BitVec.toInt_eq_toNat_cond] at h0 h1
  split at h1 <;> omega

/-- The precondition says exactly those ranges. -/
theorem inRange_of_pre (a0 : IVec S288 32) (a1 : IVec S1 32) [Cert.Pre_in_range_up.Facts] (a2 : IVec S73728x1024 32) (a3 : FVec F S32x2048x4096 .f32)
    (a4 : FVec F S32x4096 .f32) (h : Cert.Pre_in_range_up.fn (F := F) a0 a1 a2 a3 a4 = fun _ => 1#1) :
    (∀ b : Fin 288, (a0 (ix1 b)).toNat < 32) ∧ 1 ≤ (a1 (ix1 (0 : Fin 1))).toNat ∧ (a1 (ix1 (0 : Fin 1))).toNat ≤ 288 := by
  have andi_one (a b : BitVec 1) : IntOp.andi a b = 1#1 ↔ a = 1#1 ∧ b = 1#1 := by revert a b; decide
  have pre := fun b : Fin 288 => congrFun h (ix1 b)
  simp only [Cert.Pre_in_range_up.fn, constantI, broadcastInDim, cmpi, andi, andi_one, cmpi_sge_eq, cmpi_slt_eq, cmpi_sle_eq, ofBool_decide_eq_one_iff] at pre
  have e1 : ∀ j, shapeCast Cert.Pre_in_range_up.S_ a1 Cert.Pre_in_range_up.Facts.shapeCasts_S1_S_ j = a1 (ix1 (0 : Fin 1)) := by
    intro j
    unfold shapeCast
    congr 1
    funext a; obtain rfl : a = 0 := Subsingleton.elim _ _
    exact Subsingleton.elim (α := Fin 1) _ _
  simp only [e1] at pre
  have i32 : (32#32 : BitVec 32).toInt = 32 := by decide
  have i0 : (0#32 : BitVec 32).toInt = 0 := by decide
  have i1 : (1#32 : BitVec 32).toInt = 1 := by decide
  have i288 : (288#32 : BitVec 32).toInt = 288 := by decide
  simp only [i32, i0, i1, i288] at pre
  refine ⟨fun b => toNat_lt_of_signed _ 32 (by decide) (pre b).1.1.1 (pre b).1.1.2, ?_, ?_⟩
  · have h1 := (pre 0).1.2
    rw [BitVec.toInt_eq_toNat_cond] at h1
    split at h1 <;> omega
  · have h1 := (pre 0).1.2
    have h2 := (pre 0).2
    have := toNat_lt_of_signed (a1 (ix1 (0 : Fin 1))) 289 (by decide) (by omega) (by omega)
    omega

variable {m}

/-- The block whose expert block `b` is given: `b` itself when used, the last used block otherwise. -/
def liveBlock (h : InRange m) (b : Fin 288) : Fin 288 := ⟨min b.val ((usedCount m).toNat - 1), by have := b.isLt; omega⟩

variable (m)

/-- The looked-up table as the host operations compose it. -/
theorem V_main_v11 (c : Dev nD) : (V m c main_v11 : IVec S288 32)
    = Host.gather gather_S288_S288x1_S288_n_0_n_n_0_1_1 (m ((c : Thread nD τ).loc main_arg0) : IVec S288 32)
        (broadcastInDim S288x1 ![0] bcast_S288_S288x1_0
          (select (cmpi .slt (minsi (iotaInDim S288 32 0) (broadcastInDim S288 ![] bcast_S_S288 (subi (shapeCast S_ (m ((c : Thread nD τ).loc main_arg1) : IVec S1 32) shapeCasts_S1_S_) (constantI S_ 32 1#32))))
              (broadcastInDim S288 ![] bcast_S_S288 (constantI S_ 32 0#32)))
            (addi (minsi (iotaInDim S288 32 0) (broadcastInDim S288 ![] bcast_S_S288 (subi (shapeCast S_ (m ((c : Thread nD τ).loc main_arg1) : IVec S1 32) shapeCasts_S1_S_) (constantI S_ 32 1#32))))
              (broadcastInDim S288 ![] bcast_S_S288 (constantI S_ 32 288#32)))
            (minsi (iotaInDim S288 32 0) (broadcastInDim S288 ![] bcast_S_S288 (subi (shapeCast S_ (m ((c : Thread nD τ).loc main_arg1) : IVec S1 32) shapeCasts_S1_S_) (constantI S_ 32 1#32)))))) := by
  unfold V hostOps0
  after_results_simp <;> rfl

/-- The bias, with a unit axis put in. -/
theorem V_main_v12 (c : Dev nD) : (V m c main_v12 : FVec F S32x1x4096 .f32)
    = shapeCast S32x1x4096 (m ((c : Thread nD τ).loc main_arg4) : FVec F S32x4096 .f32) shapeCasts_S32x4096_S32x1x4096 := by
  unfold V hostOps0
  after_results_simp <;> rfl

variable {m}

/-- The number of used blocks as the host operations read it. -/
theorem used_scalar (j : S_.Idx) : shapeCast S_ (m (((0 : Dev nD) : Thread nD τ).loc main_arg1) : IVec S1 32) shapeCasts_S1_S_ j = usedCount m := by
  unfold shapeCast usedCount
  exact congrArg (m (((0 : Dev nD) : Thread nD τ).loc main_arg1) : IVec S1 32) (one_idx _ _)

/-- A natural number below a small bound, as a word, read signed. -/
theorem toInt_small {a : ℕ} (h : a < 2 ^ 31) : (BitVec.ofNat 32 a).toInt = a := toInt_ofNat_of_lt h

/-- The smaller of a block and the last used block, as words. -/
theorem min_word (h : InRange m) (b : ℕ) (hb : b < 288) :
    IntOp.minsi (BitVec.ofNat 32 b) (IntOp.subi (usedCount m) 1#32) = BitVec.ofNat 32 (min b ((usedCount m).toNat - 1)) := by
  have h1 := h.used_pos
  have h2 := h.used_le
  have e : IntOp.subi (usedCount m) 1#32 = BitVec.ofNat 32 ((usedCount m).toNat - 1) := by
    apply BitVec.eq_of_toNat_eq
    show (usedCount m - 1#32).toNat = _
    rw [BitVec.toNat_sub, BitVec.toNat_ofNat, BitVec.toNat_ofNat]
    omega
  rw [e]
  unfold IntOp.minsi
  have ea := toInt_small (a := b) (by omega)
  have eb := toInt_small (a := (usedCount m).toNat - 1) (by omega)
  by_cases hle : b ≤ (usedCount m).toNat - 1
  · rw [min_eq_left hle]
    first
      | rw [if_pos (by simp only [BitVec.sle, BitVec.slt, ea, eb, decide_eq_true_eq]; omega)]
      | (split
         · rfl
         · rename_i hn; simp only [BitVec.sle, BitVec.slt, ea, eb, decide_eq_true_eq] at hn
           have : b = (usedCount m).toNat - 1 := by omega
           rw [← this])
  · rw [min_eq_right (by omega)]
    first
      | rw [if_neg (by simp only [BitVec.sle, BitVec.slt, ea, eb, decide_eq_true_eq]; omega)]
      | (split
         · rename_i hn; simp only [BitVec.sle, BitVec.slt, ea, eb, decide_eq_true_eq] at hn
           omega
         · rfl)

/-- The looked-up table at a block: the expert of the block it is given. -/
theorem live_at (h : InRange m) (b : Fin 288) : (V m (0 : Dev nD) main_v11 : IVec S288 32) (ix1 b) = expertOf m (liveBlock h b) := by
  rw [V_main_v11]
  refine Routing.gather_take1 _ rfl rfl rfl rfl _ _ b (liveBlock h b) ?_ (by decide)
  have hmin : minsi (iotaInDim S288 32 0) (broadcastInDim S288 ![] bcast_S_S288 (subi (shapeCast S_ (m (((0 : Dev nD) : Thread nD τ).loc main_arg1) : IVec S1 32) shapeCasts_S1_S_) (constantI S_ 32 1#32))) (ix1 b)
      = BitVec.ofNat 32 (liveBlock h b).val := by
    show IntOp.minsi (BitVec.ofNat 32 b.val) (IntOp.subi (shapeCast S_ _ _ _) 1#32) = _
    rw [used_scalar]
    exact min_word h b.val b.isLt
  rw [col_at]
  have hl := (liveBlock h b).isLt
  show Scalar.select (IntOp.cmpi .slt (minsi (iotaInDim S288 32 0) _ (ix1 b)) 0#32) _ (minsi (iotaInDim S288 32 0) _ (ix1 b)) = _
  rw [hmin, cmpi_slt_ofNat (by omega) (by decide)]
  rfl

/-! ## The blocks the index maps name -/

/-- The packed activations' block: the block whose expert the point is given. -/
theorem xs_index (h : InRange m) (i : grid0.Coords) (h1 h2) :
    cc0_transform_0 h1 h2 (tbl m) i = ![min (i 1).val ((usedCount m).toNat - 1), 0] := by
  have hi : (i 1).val < 288 := (i 1).isLt
  have e : (tbl m).at 1 (Rect.unit (s := S1) ![0] S1.size h1) h2 = usedCount m := by
    show V m (0 : Dev nD) main_arg1 _ = _
    rw [V_main_arg1]
    exact congrArg (m (((0 : Dev nD) : Thread nD τ).loc main_arg1) : IVec S1 32) (one_idx _ _)
  unfold cc0_transform_0
  show ![(IntOp.minsi (BitVec.ofNat 32 (i 1).val) (IntOp.subi ((tbl m).at 1 (Rect.unit (s := S1) ![0] S1.size h1) h2) 1#32)).toNat, (0#32).toNat] = _
  rw [e, min_word h _ hi, BitVec.toNat_ofNat, Nat.mod_eq_of_lt (by omega)]
  rfl

/-- The looked-up word at a point. -/
theorem live_word (h : InRange m) (i : grid0.Coords) (hb) (h2) :
    (tbl m).at 2 (Rect.unit (s := S288) ![(Scalar.indexCast (BitVec.ofNat 32 (i 1).val) : Index).toNat] S1.size hb) h2
      = expertOf m (liveBlock h ⟨(i 1).val, (i 1).isLt⟩) := by
  have hi : (i 1).val < 288 := (i 1).isLt
  rw [← live_at h]
  refine congrArg (V m (0 : Dev nD) main_v11 : IVec S288 32) (vec_idx _ _ ?_)
  show (BitVec.ofNat 32 (i 1).val).toNat + _ = (i 1).val
  rw [BitVec.toNat_ofNat, Nat.mod_eq_of_lt (by omega)]
  simp

/-- The gate weight's block: the expert the point is given, at the point's columns. -/
theorem wg_index (h : InRange m) (i : grid0.Coords) (h1 h2) :
    cc0_transform_1 h1 h2 (tbl m) i = ![(expertOf m (liveBlock h ⟨(i 1).val, (i 1).isLt⟩)).toNat, 0, (i 0).val] := by
  unfold cc0_transform_1
  have h0 : (i 0).val < 2 := (i 0).isLt
  refine (congrArg (fun w : BitVec 32 => ![w.toNat, 0, (BitVec.ofNat 32 (i 0).val).toNat]) (live_word h i (h1 i) h2)).trans ?_
  rw [BitVec.toNat_ofNat, Nat.mod_eq_of_lt (by omega)]

/-- The up weight's block: the same expert, past the gate's columns. -/
theorem wu_index (h : InRange m) (i : grid0.Coords) (h1 h2) :
    cc0_transform_2 h1 h2 (tbl m) i = ![(expertOf m (liveBlock h ⟨(i 1).val, (i 1).isLt⟩)).toNat, 0, 2 + (i 0).val] := by
  unfold cc0_transform_2
  have h0 : (i 0).val < 2 := (i 0).isLt
  refine (congrArg (fun w : BitVec 32 => ![w.toNat, 0, (IntOp.addi 2#32 (BitVec.ofNat 32 (i 0).val)).toNat]) (live_word h i (h1 i) h2)).trans ?_
  have e : (IntOp.addi 2#32 (BitVec.ofNat 32 (i 0).val)).toNat = 2 + (i 0).val := by
    show (2#32 + BitVec.ofNat 32 (i 0).val).toNat = _
    rw [BitVec.toNat_add, BitVec.toNat_ofNat, BitVec.toNat_ofNat]
    omega
  rw [e]

/-- The gate bias's block: the expert's row, at the point's columns. -/
theorem bg_index (h : InRange m) (i : grid0.Coords) (h1 h2) :
    cc0_transform_3 h1 h2 (tbl m) i = ![(expertOf m (liveBlock h ⟨(i 1).val, (i 1).isLt⟩)).toNat, 0, (i 0).val] := by
  unfold cc0_transform_3
  have h0 : (i 0).val < 2 := (i 0).isLt
  refine (congrArg (fun w : BitVec 32 => ![w.toNat, 0, (BitVec.ofNat 32 (i 0).val).toNat]) (live_word h i (h1 i) h2)).trans ?_
  rw [BitVec.toNat_ofNat, Nat.mod_eq_of_lt (by omega)]

/-- The up bias's block: the same row, past the gate's columns. -/
theorem bu_index (h : InRange m) (i : grid0.Coords) (h1 h2) :
    cc0_transform_4 h1 h2 (tbl m) i = ![(expertOf m (liveBlock h ⟨(i 1).val, (i 1).isLt⟩)).toNat, 0, 2 + (i 0).val] := by
  unfold cc0_transform_4
  have h0 : (i 0).val < 2 := (i 0).isLt
  refine (congrArg (fun w : BitVec 32 => ![w.toNat, 0, (IntOp.addi 2#32 (BitVec.ofNat 32 (i 0).val)).toNat]) (live_word h i (h1 i) h2)).trans ?_
  have e : (IntOp.addi 2#32 (BitVec.ofNat 32 (i 0).val)).toNat = 2 + (i 0).val := by
    show (2#32 + BitVec.ofNat 32 (i 0).val).toNat = _
    rw [BitVec.toNat_add, BitVec.toNat_ofNat, BitVec.toNat_ofNat]
    omega
  rw [e]

/-- Every block an index map names lies inside its array. -/
theorem ok_of_inRange (h : InRange m) : Ok m := by
  refine ⟨fun i => ⟨?_, Or.inl rfl⟩, fun i => ⟨?_, Or.inl rfl⟩, fun i => ⟨?_, Or.inl rfl⟩, fun i => ⟨?_, Or.inl rfl⟩, fun i => ⟨?_, Or.inl rfl⟩⟩
  · intro a
    rw [xs_index h]
    have hi : (i 1).val < 288 := (i 1).isLt
    fin_cases a
    · show (min (i 1).val _ + 1) * 256 ≤ 73728; omega
    · show (0 + 1) * 1024 ≤ 1024; omega
  · intro a
    rw [wg_index h]
    have he := h.expert_lt (liveBlock h ⟨(i 1).val, (i 1).isLt⟩)
    have h0 : (i 0).val < 2 := (i 0).isLt
    fin_cases a
    · show ((expertOf m (liveBlock h ⟨(i 1).val, (i 1).isLt⟩)).toNat + 1) * 1 ≤ 32; omega
    · show (0 + 1) * 2048 ≤ 2048; omega
    · show ((i 0).val + 1) * 1024 ≤ 4096; omega
  · intro a
    rw [wu_index h]
    have he := h.expert_lt (liveBlock h ⟨(i 1).val, (i 1).isLt⟩)
    have h0 : (i 0).val < 2 := (i 0).isLt
    fin_cases a
    · show ((expertOf m (liveBlock h ⟨(i 1).val, (i 1).isLt⟩)).toNat + 1) * 1 ≤ 32; omega
    · show (0 + 1) * 2048 ≤ 2048; omega
    · show (2 + (i 0).val + 1) * 1024 ≤ 4096; omega
  · intro a
    rw [bg_index h]
    have he := h.expert_lt (liveBlock h ⟨(i 1).val, (i 1).isLt⟩)
    have h0 : (i 0).val < 2 := (i 0).isLt
    fin_cases a
    · show ((expertOf m (liveBlock h ⟨(i 1).val, (i 1).isLt⟩)).toNat + 1) * 1 ≤ 32; omega
    · show (0 + 1) * 1 ≤ 1; omega
    · show ((i 0).val + 1) * 1024 ≤ 4096; omega
  · intro a
    rw [bu_index h]
    have he := h.expert_lt (liveBlock h ⟨(i 1).val, (i 1).isLt⟩)
    have h0 : (i 0).val < 2 := (i 0).isLt
    fin_cases a
    · show ((expertOf m (liveBlock h ⟨(i 1).val, (i 1).isLt⟩)).toNat + 1) * 1 ≤ 32; omega
    · show (0 + 1) * 1 ≤ 1; omega
    · show (2 + (i 0).val + 1) * 1024 ≤ 4096; omega

/-- A point's coordinates: which half of the columns, and which block it works on. -/
theorem point_col (t : Fin grid0.N) : (grid0.coords t 0).val = t.val / 288 := by
  have ht : t.val < 576 := lt_of_lt_of_eq t.isLt N_0
  have e : (grid0.coords t 0).val = t.val / 288 % 2 := Pipeline.Grid.coords_val t 0 (by decide) rfl
  rw [e]; omega
theorem point_block (t : Fin grid0.N) : (grid0.coords t 1).val = t.val % 288 := by
  have e : (grid0.coords t 1).val = t.val / 1 % 288 := Pipeline.Grid.coords_val t 1 (by decide) rfl
  rw [e, Nat.div_one]

/-- The block a point works on. -/
def blockOf (t : Fin grid0.N) : Fin 288 := ⟨t.val % 288, Nat.mod_lt _ (by decide)⟩

theorem coord_block (t : Fin grid0.N) : (⟨(grid0.coords t 1).val, (grid0.coords t 1).isLt⟩ : Fin 288) = blockOf t := Fin.ext (point_block t)

/-- The expert of the weights and biases a point is given. -/
def expertAt (h : InRange m) (t : Fin grid0.N) : Fin 32 := ⟨(expertOf m (liveBlock h (blockOf t))).toNat, h.expert_lt _⟩

/-- The gate weight a point is given: its expert's, at the point's columns. -/
theorem wg_block (h : InRange m) (hO : Ok m) (t : Fin (cfgM m hO).N) (z : Fin 1) (k : Fin 2048) (l : Fin 1024) (q : Fin 4096)
    (hq : q.val = 1024 * (t.val / 288) + l.val) :
    wgAt m hO (0 : Dev nD) t (ix3 z k l)
      = (m (((0 : Dev nD) : Thread nD τ).loc main_arg3) : FVec F S32x2048x4096 .f32) (ix3 (expertAt h t) k q) := by
  have hz : z.val = 0 := by have := z.isLt; omega
  show V m (0 : Dev nD) main_arg3 (((View.whole main_arg3).slice ((win0 (adm m hO) 1).rect t)).emb (ix3 z k l)) = _
  rw [V_main_arg3]
  refine congrArg (m (((0 : Dev nD) : Thread nD τ).loc main_arg3) : FVec F S32x2048x4096 .f32) ?_
  have hi : ((win0 (adm m hO) 1).index t : Fin 3 → ℕ) = ![(expertAt h t).val, 0, t.val / 288] := by
    refine (wg_index h (grid0.coords t) _ _).trans ?_
    rw [coord_block, point_col]; rfl
  funext a
  apply Fin.ext
  refine (ValueKit.view_emb_slice_whole_unit_val main_arg3 _ _ _ (ix3 z k l) a).trans ?_
  show (win0 (adm m hO) 1).index t a * (spec0_1.size a) + (ix3 z k l a).val = (ix3 (expertAt h t) k q a).val
  rw [show (win0 (adm m hO) 1).index t a = (![(expertAt h t).val, 0, t.val / 288] : Fin 3 → ℕ) a from congrFun hi a]
  fin_cases a
  · show (expertAt h t).val * 1 + z.val = (expertAt h t).val; omega
  · show 0 * 2048 + k.val = k.val; omega
  · show (t.val / 288) * 1024 + l.val = q.val; omega

/-- The up weight a point is given: its expert's, past the gate's columns. -/
theorem wu_block (h : InRange m) (hO : Ok m) (t : Fin (cfgM m hO).N) (z : Fin 1) (k : Fin 2048) (l : Fin 1024) (q : Fin 4096)
    (hq : q.val = 2048 + 1024 * (t.val / 288) + l.val) :
    wuAt m hO (0 : Dev nD) t (ix3 z k l)
      = (m (((0 : Dev nD) : Thread nD τ).loc main_arg3) : FVec F S32x2048x4096 .f32) (ix3 (expertAt h t) k q) := by
  have hz : z.val = 0 := by have := z.isLt; omega
  show V m (0 : Dev nD) main_arg3 (((View.whole main_arg3).slice ((win0 (adm m hO) 2).rect t)).emb (ix3 z k l)) = _
  rw [V_main_arg3]
  refine congrArg (m (((0 : Dev nD) : Thread nD τ).loc main_arg3) : FVec F S32x2048x4096 .f32) ?_
  have hi : ((win0 (adm m hO) 2).index t : Fin 3 → ℕ) = ![(expertAt h t).val, 0, 2 + t.val / 288] := by
    refine (wu_index h (grid0.coords t) _ _).trans ?_
    rw [coord_block, point_col]; rfl
  funext a
  apply Fin.ext
  refine (ValueKit.view_emb_slice_whole_unit_val main_arg3 _ _ _ (ix3 z k l) a).trans ?_
  show (win0 (adm m hO) 2).index t a * (spec0_2.size a) + (ix3 z k l a).val = (ix3 (expertAt h t) k q a).val
  rw [show (win0 (adm m hO) 2).index t a = (![(expertAt h t).val, 0, 2 + t.val / 288] : Fin 3 → ℕ) a from congrFun hi a]
  fin_cases a
  · show (expertAt h t).val * 1 + z.val = (expertAt h t).val; omega
  · show 0 * 2048 + k.val = k.val; omega
  · show (2 + t.val / 288) * 1024 + l.val = q.val; omega

/-- The gate bias a point is given: its expert's, at the point's columns. -/
theorem bg_block (h : InRange m) (hO : Ok m) (t : Fin (cfgM m hO).N) (z z' : Fin 1) (l : Fin 1024) (q : Fin 4096)
    (hq : q.val = 1024 * (t.val / 288) + l.val) :
    bgAt m hO (0 : Dev nD) t (ix3 z z' l)
      = (m (((0 : Dev nD) : Thread nD τ).loc main_arg4) : FVec F S32x4096 .f32) (ix2 (expertAt h t) q) := by
  have hz : z.val = 0 := by have := z.isLt; omega
  have hz' : z'.val = 0 := by have := z'.isLt; omega
  show V m (0 : Dev nD) main_v12 (((View.whole main_v12).slice ((win0 (adm m hO) 3).rect t)).emb (ix3 z z' l)) = _
  have hi : ((win0 (adm m hO) 3).index t : Fin 3 → ℕ) = ![(expertAt h t).val, 0, t.val / 288] := by
    refine (bg_index h (grid0.coords t) _ _).trans ?_
    rw [coord_block, point_col]; rfl
  have e : ((View.whole main_v12).slice ((win0 (adm m hO) 3).rect t)).emb (ix3 z z' l) = (ix3 (expertAt h t) (0 : Fin 1) q : S32x1x4096.Idx) := by
    funext a
    apply Fin.ext
    refine (ValueKit.view_emb_slice_whole_unit_val main_v12 _ _ _ (ix3 z z' l) a).trans ?_
    show (win0 (adm m hO) 3).index t a * (spec0_3.size a) + (ix3 z z' l a).val = (ix3 (expertAt h t) (0 : Fin 1) q a).val
    rw [show (win0 (adm m hO) 3).index t a = (![(expertAt h t).val, 0, t.val / 288] : Fin 3 → ℕ) a from congrFun hi a]
    fin_cases a
    · show (expertAt h t).val * 1 + z.val = (expertAt h t).val; omega
    · show 0 * 1 + z'.val = 0; omega
    · show (t.val / 288) * 1024 + l.val = q.val; omega
  rw [e, V_main_v12]
  pointwise

/-- The up bias a point is given: its expert's, past the gate's columns. -/
theorem bu_block (h : InRange m) (hO : Ok m) (t : Fin (cfgM m hO).N) (z z' : Fin 1) (l : Fin 1024) (q : Fin 4096)
    (hq : q.val = 2048 + 1024 * (t.val / 288) + l.val) :
    buAt m hO (0 : Dev nD) t (ix3 z z' l)
      = (m (((0 : Dev nD) : Thread nD τ).loc main_arg4) : FVec F S32x4096 .f32) (ix2 (expertAt h t) q) := by
  have hz : z.val = 0 := by have := z.isLt; omega
  have hz' : z'.val = 0 := by have := z'.isLt; omega
  show V m (0 : Dev nD) main_v12 (((View.whole main_v12).slice ((win0 (adm m hO) 4).rect t)).emb (ix3 z z' l)) = _
  have hi : ((win0 (adm m hO) 4).index t : Fin 3 → ℕ) = ![(expertAt h t).val, 0, 2 + t.val / 288] := by
    refine (bu_index h (grid0.coords t) _ _).trans ?_
    rw [coord_block, point_col]; rfl
  have e : ((View.whole main_v12).slice ((win0 (adm m hO) 4).rect t)).emb (ix3 z z' l) = (ix3 (expertAt h t) (0 : Fin 1) q : S32x1x4096.Idx) := by
    funext a
    apply Fin.ext
    refine (ValueKit.view_emb_slice_whole_unit_val main_v12 _ _ _ (ix3 z z' l) a).trans ?_
    show (win0 (adm m hO) 4).index t a * (spec0_4.size a) + (ix3 z z' l a).val = (ix3 (expertAt h t) (0 : Fin 1) q a).val
    rw [show (win0 (adm m hO) 4).index t a = (![(expertAt h t).val, 0, 2 + t.val / 288] : Fin 3 → ℕ) a from congrFun hi a]
    fin_cases a
    · show (expertAt h t).val * 1 + z.val = (expertAt h t).val; omega
    · show 0 * 1 + z'.val = 0; omega
    · show (2 + t.val / 288) * 1024 + l.val = q.val; omega
  rw [e, V_main_v12]
  pointwise

/-- The packed activations a point is given: those of its block when used, of the last used block otherwise. -/
theorem xs_block (h : InRange m) (hO : Ok m) (t : Fin (cfgM m hO).N) (r : Fin 256) (l : Fin 1024) (q : Fin 73728)
    (hq : q.val = 256 * (liveBlock h (blockOf t)).val + r.val) :
    xsAt m hO (0 : Dev nD) t (ix2 r l) = (m (((0 : Dev nD) : Thread nD τ).loc main_arg2) : IVec S73728x1024 32) (ix2 q l) := by
  show V m (0 : Dev nD) main_arg2 (((View.whole main_arg2).slice ((win0 (adm m hO) 0).rect t)).emb (ix2 r l)) = _
  rw [V_main_arg2]
  refine congrArg (m (((0 : Dev nD) : Thread nD τ).loc main_arg2) : IVec S73728x1024 32) ?_
  have hi : ((win0 (adm m hO) 0).index t : Fin 2 → ℕ) = ![(liveBlock h (blockOf t)).val, 0] := by
    refine (xs_index h (grid0.coords t) _ _).trans ?_
    rw [point_block]; rfl
  funext a
  apply Fin.ext
  refine (ValueKit.view_emb_slice_whole_unit_val main_arg2 _ _ _ (ix2 r l) a).trans ?_
  show (win0 (adm m hO) 0).index t a * (spec0_0.size a) + (ix2 r l a).val = (ix2 q l a).val
  rw [show (win0 (adm m hO) 0).index t a = (![(liveBlock h (blockOf t)).val, 0] : Fin 2 → ℕ) a from congrFun hi a]
  fin_cases a
  · show (liveBlock h (blockOf t)).val * 256 + r.val = q.val; omega
  · show 0 * 1024 + l.val = l.val; omega

/-- The number of used blocks as the body reads it. -/
theorem used_word (c : Dev nD) : usedW c (tb1 m c) = usedCount m := by
  obtain rfl : c = 0 := Subsingleton.elim _ _
  show (V m (0 : Dev nD) main_arg1 : IVec S1 32) _ = _
  rw [V_main_arg1]
  exact congrArg (m (((0 : Dev nD) : Thread nD τ).loc main_arg1) : IVec S1 32) (one_idx _ _)

/-- A point's block is used exactly when it is among the first used ones. -/
theorem usedAt_iff (h : InRange m) (hO : Ok m) (c : Dev nD) (t : Fin (cfgM m hO).N) :
    UsedAt m hO c t ↔ (blockOf t).val < (usedCount m).toNat := by
  have hu := h.used_le
  have hb : (blockOf t).val < 288 := (blockOf t).isLt
  have ec : (grid0.coords t 1).val = (blockOf t).val := point_block t
  refine (cond1_iff _ _).trans ?_
  rw [used_word, ec, toInt_small (by omega), WordCmp.toInt_eq_toNat_of_lt_half (x := usedCount m) (by omega)]
  omega

/-- A word of the experts' table as the body reads it. -/
theorem expert_word (c : Dev nD) (off : Fin 1 → ℕ) (inb) (b : Fin 288) (hb : off 0 = b.val) :
    (View.readAt (Elt F) tbM0_0.view (Rect.unit (s := S288) off S1.size inb).toLoadRect (tb0 m c) (Shape.Idx.first (show 0 < S1.numel by decide)) : BitVec 32)
      = expertOf m b := by
  obtain rfl : c = 0 := Subsingleton.elim _ _
  show (V m (0 : Dev nD) main_arg0 : IVec S288 32) _ = _
  rw [V_main_arg0]
  refine congrArg (m (((0 : Dev nD) : Thread nD τ).loc main_arg0) : IVec S288 32) (vec_idx _ _ ?_)
  show off 0 + _ = b.val
  rw [hb]
  simp

/-- The first block casts its weight, whatever the two words. -/
theorem changed_first (x y : BitVec 32) :
    Scalar.cmpi .ne (Scalar.extui (Scalar.ori (BitVec.ofBool true) (Scalar.cmpi .ne x y)) : BitVec 32) 0#32 = 1#1 := by
  have h : ∀ z : BitVec 1, Scalar.cmpi .ne (Scalar.extui (Scalar.ori (BitVec.ofBool true) z) : BitVec 32) 0#32 = 1#1 := by decide
  exact h _

/-- A block that keeps the weights is not the first, and has the expert of the block before. -/
theorem kept (c : Dev nD) (t : Fin grid0.N) (hk : ¬ changedW c (grid0.coords t) (tb0 m c) = 1#1) :
    0 < (blockOf t).val ∧ ∀ b : Fin 288, b.val + 1 = (blockOf t).val → expertOf m b = expertOf m (blockOf t) := by
  have ht : (blockOf t).val < 288 := (blockOf t).isLt
  have ec : (grid0.coords t 1).val = (blockOf t).val := point_block t
  unfold changedW at hk
  rw [ec] at hk
  have e2 : k0_off2 (grid0.coords t) 0 = (blockOf t).val := by
    show (BitVec.ofNat 32 (grid0.coords t 1).val).toNat = (blockOf t).val
    rw [ec, BitVec.toNat_ofNat, Nat.mod_eq_of_lt (by omega)]
  rw [expert_word c (k0_off2 (grid0.coords t)) (k0_off2_inb _) (blockOf t) e2] at hk
  have e0 : Scalar.cmpi .eq (BitVec.ofNat 32 (blockOf t).val) 0#32 = BitVec.ofBool (decide ((blockOf t).val = 0)) := by
    show IntOp.cmpi .eq (BitVec.ofNat 32 (blockOf t).val) (BitVec.ofNat 32 0) = _
    rw [cmpi_eq_eq]
    congr 1
    exact decide_eq_decide.mpr (ofNat_eq_ofNat_iff (by omega) (by omega))
  rw [e0] at hk
  by_cases h0 : (blockOf t).val = 0
  · exfalso
    apply hk
    rw [decide_eq_true h0]
    exact changed_first _ _
  · refine ⟨by omega, fun b hb => ?_⟩
    have e3 : k0_off3 (grid0.coords t) 0 = b.val := by
      show (IntOp.maxsi (IntOp.subi (BitVec.ofNat 32 (grid0.coords t 1).val) 1#32) 0#32).toNat = b.val
      rw [ec]
      have es : IntOp.subi (BitVec.ofNat 32 (blockOf t).val) 1#32 = BitVec.ofNat 32 b.val := by
        apply BitVec.eq_of_toNat_eq
        show (BitVec.ofNat 32 (blockOf t).val - 1#32).toNat = _
        rw [BitVec.toNat_sub, BitVec.toNat_ofNat, BitVec.toNat_ofNat, BitVec.toNat_ofNat]
        omega
      rw [es]
      have eb := toInt_small (a := b.val) (by omega)
      have hz : (0#32 : BitVec 32).toInt = 0 := by decide
      unfold IntOp.maxsi
      split
      · rw [BitVec.toNat_ofNat, Nat.mod_eq_of_lt (by omega)]
      · rename_i hn
        simp only [BitVec.sle, BitVec.slt, eb, hz, decide_eq_true_eq] at hn
        show 0 = b.val
        omega
    rw [expert_word c (k0_off3 (grid0.coords t)) (k0_off3_inb _) b e3, decide_eq_false h0] at hk
    by_contra hne
    apply hk
    rw [show Scalar.cmpi .ne (expertOf m (blockOf t)) (expertOf m b) = 1#1 from by
      show IntOp.cmpi .ne _ _ = _
      rw [cmpi_ne_eq, ofBool_decide_eq_one_iff]; exact fun e => hne e.symm]
    decide

/-- A used block keeps the weights only after a used block with the same weights. -/
theorem steady_of_inRange (h : InRange m) (hO : Ok m) : Steady m hO := by
  intro c t hu hk
  obtain rfl : c = 0 := Subsingleton.elim _ _
  obtain ⟨hp, he⟩ := kept (m := m) (0 : Dev nD) t hk
  have hu' := (usedAt_iff h hO _ t).1 hu
  have hbt : (blockOf t).val = t.val % 288 := rfl
  have hN : t.val < 576 := lt_of_lt_of_eq t.isLt N_0
  have hN' : grid0.N = 576 := N_0
  have hs : ∃ s : Fin grid0.N, s.val + 1 = t.val := ⟨⟨t.val - 1, by omega⟩, by show t.val - 1 + 1 = t.val; omega⟩
  obtain ⟨s, hs⟩ := hs
  have hbs : (blockOf s).val = s.val % 288 := rfl
  have hb : (blockOf s).val + 1 = (blockOf t).val := by omega
  have hc : s.val / 288 = t.val / 288 := by omega
  have hl : ∀ r : Fin grid0.N, (blockOf r).val ≤ (blockOf t).val → liveBlock h (blockOf r) = blockOf r := fun r hr => by
    apply Fin.ext
    show min (blockOf r).val _ = (blockOf r).val
    omega
  have hx : expertAt h s = expertAt h t := by
    apply Fin.ext
    show (expertOf m (liveBlock h _)).toNat = (expertOf m (liveBlock h _)).toNat
    rw [hl s (by omega), hl t le_rfl, he _ hb]
  refine ⟨s, hs, (usedAt_iff h hO _ _).2 (by omega), ?_, ?_⟩
  · funext y
    have ey : y = ix3 (y 0) (y 1) (y 2) := by
      funext a; fin_cases a <;> rfl
    have y2 : (y (2 : Fin 3)).val < 1024 := (y (2 : Fin 3)).isLt
    have e1 := wg_block h hO s (y 0) (y 1) (y 2) ⟨1024 * (t.val / 288) + (y (2 : Fin 3)).val, by omega⟩ (by rw [hc])
    rw [hx] at e1
    rw [ey]
    exact e1.trans (wg_block h hO t (y 0) (y 1) (y 2) _ rfl).symm
  · funext y
    have ey : y = ix3 (y 0) (y 1) (y 2) := by
      funext a; fin_cases a <;> rfl
    have y2 : (y (2 : Fin 3)).val < 1024 := (y (2 : Fin 3)).isLt
    have e1 := wu_block h hO s (y 0) (y 1) (y 2) ⟨2048 + 1024 * (t.val / 288) + (y (2 : Fin 3)).val, by omega⟩ (by rw [hc])
    rw [hx] at e1
    rw [ey]
    exact e1.trans (wu_block h hO t (y 0) (y 1) (y 2) _ rfl).symm

end Cert.Kernel5Ideal.Gen

end
-- ==== Proof.UpValue.lean ====
module

public import proofs.«01_k».proof.Proof.UpTable
public import proofs.«01_k».proof.Proof.Common

@[expose] public section

set_option maxRecDepth 16384

/-! The result array of the up projection, as one function of its arguments. -/

noncomputable section

open Idealize.ShloMosaic Idealize.ShloMosaic.TcCoe Idealize.SL.Sem
open Idealize.ShloMosaic.Pipeline (Dat)
open Cert.Common

namespace Cert.Kernel5Ideal.Value

open Cert.Kernel5Ideal Cert.Kernel5Ideal.Gen

/-! ## A bf16 pattern widened by zeros -/

/-- The fields of an f32 pattern that is a bf16 pattern with sixteen zeros below it. -/
theorem sign_field (w : BitVec 32) (h : BitVec 16) (e : w.toNat = h.toNat * 65536) : w.extractLsb' 31 1 = h.extractLsb' 15 1 := by
  apply BitVec.eq_of_toNat_eq
  simp only [BitVec.extractLsb'_toNat, Nat.shiftRight_eq_div_pow, e]
  omega
theorem exponent_field (w : BitVec 32) (h : BitVec 16) (e : w.toNat = h.toNat * 65536) : w.extractLsb' 23 8 = h.extractLsb' 7 8 := by
  apply BitVec.eq_of_toNat_eq
  simp only [BitVec.extractLsb'_toNat, Nat.shiftRight_eq_div_pow, e]
  omega
theorem fraction_field (w : BitVec 32) (h : BitVec 16) (e : w.toNat = h.toNat * 65536) :
    (w.extractLsb' 0 23).toNat = (h.extractLsb' 0 7).toNat * 65536 := by
  simp only [BitVec.extractLsb'_toNat, Nat.shiftRight_eq_div_pow, e]
  omega

/-- A bf16 pattern with sixteen zeros below it denotes, as an f32 pattern, what the bf16 pattern denotes. -/
theorem widened (w : BitVec 32) (h : BitVec 16) (e : w.toNat = h.toNat * 65536) : Ideal.ofBits .f32 w = Ideal.ofBits .bf16 h := by
  show Ideal.ieee 8 23 w = Ideal.ieee 8 7 h
  have e1 := sign_field w h e
  have e2 := exponent_field w h e
  have e3 := fraction_field w h e
  unfold Ideal.ieee
  simp only [show (8 + 23 : ℕ) = 31 from rfl, show (8 + 7 : ℕ) = 15 from rfl, e1, e2, e3]
  have hz : ((h.extractLsb' 0 7).toNat * 65536 = 0) = ((h.extractLsb' 0 7).toNat = 0) := propext (by omega)
  simp only [hz]
  generalize (h.extractLsb' 0 7).toNat = f
  generalize (h.extractLsb' 7 8).toNat = x
  split
  · rfl
  · split
    · congr 1
      have p : (2 : ℝ) ^ (1 - (2 ^ (8 - 1) - 1) - (7 : ℕ) : ℤ) = 65536 * (2 : ℝ) ^ (1 - (2 ^ (8 - 1) - 1) - (23 : ℕ) : ℤ) := by norm_num
      rw [p]; push_cast; ring
    · congr 1
      have p : (2 : ℝ) ^ ((x : ℤ) - (2 ^ (8 - 1) - 1) - (7 : ℕ) : ℤ) = 65536 * (2 : ℝ) ^ ((x : ℤ) - (2 ^ (8 - 1) - 1) - (23 : ℕ) : ℤ) := by
        rw [show ((x : ℤ) - (2 ^ (8 - 1) - 1) - (7 : ℕ) : ℤ) = 16 + ((x : ℤ) - (2 ^ (8 - 1) - 1) - (23 : ℕ)) by push_cast; ring, zpow_add₀ (by norm_num)]
        norm_num
      rw [p]; push_cast; ring

/-- A word shifted up by sixteen is its low half with zeros below; a word with its low half cleared is its high half. -/
theorem low_half (w : BitVec 32) : Ideal.ofBits .f32 (IntOp.shli .vector w 16#32) = Ideal.ofBits .bf16 (w.extractLsb' 0 16) := by
  refine widened _ _ ?_
  show (w <<< (16#32 : BitVec 32)).toNat = _
  rw [BitVec.shiftLeft_eq', BitVec.toNat_shiftLeft, BitVec.extractLsb'_toNat]
  simp only [Nat.shiftLeft_eq, Nat.shiftRight_eq_div_pow]
  show w.toNat * 2 ^ 16 % 2 ^ 32 = _
  omega
theorem high_half (w : BitVec 32) : Ideal.ofBits .f32 (IntOp.andi w 4294901760#32) = Ideal.ofBits .bf16 (w.extractLsb' 16 16) := by
  refine widened _ _ ?_
  show (w &&& 4294901760#32).toNat = _
  have e := congrArg BitVec.toNat (IdealRules.bf16_pack.hi16_append w)
  rw [BitVec.toNat_append, Nat.shiftLeft_eq] at e
  refine (e.symm.trans (Nat.or_zero _)).trans ?_
  rfl

/-- A block's words as rows: the low halves first, the high halves after them. -/
theorem unpacked (v : Vec Ideal S256x1024 .i32) (r : Fin 256) (k : Fin 2048) :
    k0_pay5 (F := Ideal) v (ix2 r k)
      = Ideal.ofBits .bf16 ((v (ix2 r (⟨k.val % 1024, Nat.mod_lt _ (by decide)⟩ : Fin 1024))).extractLsb' (16 * (k.val / 1024)) 16) := by
  pointwise [k0_pay5]
  by_cases hk : k.val < 1024
  · have e1 : (⟨k.val % 1024, Nat.mod_lt _ (by decide)⟩ : Fin 1024) = ⟨k.val, hk⟩ := Fin.ext (Nat.mod_eq_of_lt hk)
    rw [dif_pos hk, low_half, e1, Nat.div_eq_of_lt hk]
  · have e1 : (⟨k.val % 1024, Nat.mod_lt _ (by decide)⟩ : Fin 1024) = ⟨k.val - 1024, by omega⟩ := Fin.ext (by show k.val % 1024 = k.val - 1024; omega)
    have e2 : k.val / 1024 = 1 := by omega
    rw [dif_neg hk, high_half, e1, e2]

/-- The two projections' combination: the gate clipped above and the other clipped on both sides. -/
def act (g u : EReal) : EReal :=
  (min (Ideal.ofBits .f32 0x40E00000#32) (max (Ideal.ofBits .f32 0xC0E00000#32) u) + Ideal.ofBits .f32 0x3F800000#32)
    * min g (Ideal.ofBits .f32 0x40E00000#32)
    * lgst (Ideal.ofBits .f32 0x3FD9DB23#32 * min g (Ideal.ofBits .f32 0x40E00000#32))

/-- A block's combination at a row and column. -/
theorem combined (v : Vec Ideal S256x1024 .i32) (wg wu : Vec Ideal S1x2048x1024 .f32) (bg bu : Vec Ideal S1x1x1024 .f32) (r : Fin 256) (l : Fin 1024) :
    swiglu (F := Ideal) v (k0_pay3 wg) (k0_pay4 wu) bg bu (ix2 r l)
      = act ((∑ k : Fin 2048, k0_pay5 (F := Ideal) v (ix2 r k) * wg (ix3 (0 : Fin 1) k l)) + bg (ix3 (0 : Fin 1) (0 : Fin 1) l))
          ((∑ k : Fin 2048, k0_pay5 (F := Ideal) v (ix2 r k) * wu (ix3 (0 : Fin 1) k l)) + bu (ix3 (0 : Fin 1) (0 : Fin 1) l)) := by
  have hg : k0_pay7 (F := Ideal) v (k0_pay3 wg) bg (ix2 r l) = min ((∑ k : Fin 2048, k0_pay5 (F := Ideal) v (ix2 r k) * wg (ix3 (0 : Fin 1) k l)) + bg (ix3 (0 : Fin 1) (0 : Fin 1) l)) (Ideal.ofBits .f32 0x40E00000#32) := by
    unfold k0_pay7
    generalize k0_pay5 (F := Ideal) v = X
    pointwise [k0_pay3]
  have hu : k0_pay6 (F := Ideal) v (k0_pay4 wu) bu (ix2 r l) = (∑ k : Fin 2048, k0_pay5 (F := Ideal) v (ix2 r k) * wu (ix3 (0 : Fin 1) k l)) + bu (ix3 (0 : Fin 1) (0 : Fin 1) l) := by
    unfold k0_pay6
    generalize k0_pay5 (F := Ideal) v = X
    pointwise [k0_pay4]
  unfold swiglu act
  generalize k0_pay7 (F := Ideal) v (k0_pay3 wg) bg = G at hg ⊢
  generalize k0_pay6 (F := Ideal) v (k0_pay4 wu) bu = U at hu ⊢
  rw [← hg, ← hu, ← half_tanh]
  pointwise [k0_pay1, k0_pay8]

/-- Entry `k` of row `R` of the packed activations: the low halves of the row's words come first, the high halves after them. -/
def rowHalf (x : S73728x1024.Idx → BitVec 32) (R : Fin 73728) (k : Fin 2048) : EReal :=
  Ideal.ofBits .bf16 ((x (ix2 R (⟨k.val % 1024, Nat.mod_lt _ (by decide)⟩ : Fin 1024))).extractLsb' (16 * (k.val / 1024)) 16)

/-- The expert of the block row `R` lies in. -/
def expertRow (be : S288.Idx → BitVec 32) (R : Fin 73728) : Fin 32 :=
  ⟨(be (ix1 (⟨R.val / 256, by omega⟩ : Fin 288))).toNat % 32, Nat.mod_lt _ (by decide)⟩

/-- Row `R` times column `q` of its block's expert's weight, plus that expert's bias. -/
def projected (be : S288.Idx → BitVec 32) (x : S73728x1024.Idx → BitVec 32) (w : S32x2048x4096.Idx → EReal) (b : S32x4096.Idx → EReal)
    (R : Fin 73728) (q : Fin 4096) : EReal :=
  (∑ k : Fin 2048, rowHalf x R k * w (ix3 (expertRow be R) k q)) + b (ix2 (expertRow be R) q)

/-- The up projection at row `R` and column `q`: the gate column and the column beside it combined where the block is used; zero elsewhere. -/
def upAt (be : S288.Idx → BitVec 32) (nu : S1.Idx → BitVec 32) (x : S73728x1024.Idx → BitVec 32)
    (w : S32x2048x4096.Idx → EReal) (b : S32x4096.Idx → EReal) (R : Fin 73728) (q : Fin 2048) : EReal :=
  if R.val / 256 < (nu (ix1 (0 : Fin 1))).toNat then
    act (projected be x w b R (⟨q.val, by omega⟩ : Fin 4096)) (projected be x w b R (⟨2048 + q.val, by omega⟩ : Fin 4096))
  else 0

variable (m : (ℓ : Loc nD τ sig) → Buf (Elt Ideal) ℓ)

/-- What a point leaves in its result block, at a row and column of the block. -/
theorem point (h : InRange m) (hO : Ok m) (t : Fin (cfgM m hO).N) (r : Fin 256) (l : Fin 1024) (R : Fin 73728) (q : Fin 2048)
    (hR : R.val = 256 * (t.val % 288) + r.val) (hq : q.val = 1024 * (t.val / 288) + l.val) :
    outAt m hO (0 : Dev nD) t (ix2 r l)
      = upAt (m (((0 : Dev nD) : Thread nD τ).loc main_arg0)) (m (((0 : Dev nD) : Thread nD τ).loc main_arg1))
          (m (((0 : Dev nD) : Thread nD τ).loc main_arg2)) (m (((0 : Dev nD) : Thread nD τ).loc main_arg3))
          (m (((0 : Dev nD) : Thread nD τ).loc main_arg4)) R q := by
  have hb : R.val / 256 = t.val % 288 := by omega
  have hlt : t.val % 288 < 288 := (blockOf t).isLt
  unfold outAt upAt
  by_cases hu : UsedAt m hO (0 : Dev nD) t
  · have hn : t.val % 288 < (usedCount m).toNat := (usedAt_iff h hO _ t).1 hu
    have hn' : R.val / 256 < ((m (((0 : Dev nD) : Thread nD τ).loc main_arg1) : IVec S1 32) (ix1 (0 : Fin 1))).toNat := by
      show R.val / 256 < (usedCount m).toNat; omega
    rw [if_pos hu, if_pos hn', combined]
    have hl : liveBlock h (blockOf t) = blockOf t := by
      apply Fin.ext
      show min (t.val % 288) _ = t.val % 288
      omega
    have he : expertAt h t = expertRow (m (((0 : Dev nD) : Thread nD τ).loc main_arg0)) R := by
      apply Fin.ext
      show (expertOf m (liveBlock h (blockOf t))).toNat = (expertOf m ⟨R.val / 256, _⟩).toNat % 32
      rw [hl, show (⟨R.val / 256, by omega⟩ : Fin 288) = blockOf t from Fin.ext hb, Nat.mod_eq_of_lt (h.expert_lt _)]
    have hx : ∀ k : Fin 2048, k0_pay5 (F := Ideal) (xsAt m hO (0 : Dev nD) t) (ix2 r k)
        = rowHalf (m (((0 : Dev nD) : Thread nD τ).loc main_arg2)) R k := fun k => by
      rw [unpacked, xs_block h hO t r _ R (by rw [hl]; exact hR)]
      rfl
    unfold projected
    refine congrArg₂ act (congrArg₂ (· + ·) (Finset.sum_congr rfl fun k _ => ?_) ?_) (congrArg₂ (· + ·) (Finset.sum_congr rfl fun k _ => ?_) ?_)
    · rw [hx, wg_block h hO t _ k l (⟨q.val, by omega⟩ : Fin 4096) hq, he]
    · rw [bg_block h hO t _ _ l (⟨q.val, by omega⟩ : Fin 4096) hq, he]
    · rw [hx, wu_block h hO t _ k l (⟨2048 + q.val, by omega⟩ : Fin 4096) (by show 2048 + q.val = _; omega), he]
    · rw [bu_block h hO t _ _ l (⟨2048 + q.val, by omega⟩ : Fin 4096) (by show 2048 + q.val = _; omega), he]
  · have hn : ¬ t.val % 288 < (usedCount m).toNat := fun hlt => hu ((usedAt_iff h hO _ t).2 hlt)
    have hn' : ¬ R.val / 256 < ((m (((0 : Dev nD) : Thread nD τ).loc main_arg1) : IVec S1 32) (ix1 (0 : Fin 1))).toNat := by
      show ¬ R.val / 256 < (usedCount m).toNat; omega
    rw [if_neg hu, if_neg hn']
    unfold k0_pay2
    pointwise

/-- The up projection as an array of the arguments' contents. -/
def upArr : FVec Ideal S73728x2048 .bf16 := fun j =>
  upAt (m (((0 : Dev nD) : Thread nD τ).loc main_arg0)) (m (((0 : Dev nD) : Thread nD τ).loc main_arg1)) (m (((0 : Dev nD) : Thread nD τ).loc main_arg2))
    (m (((0 : Dev nD) : Thread nD τ).loc main_arg3)) (m (((0 : Dev nD) : Thread nD τ).loc main_arg4)) (j 0) (j 1)

/-- The result block's index at a point: the point's block of rows and its half of the columns. -/
theorem out_index (a : (pcfg0 (F := Ideal)).Adm) (t : Fin grid0.N) : ((win0 a 5).index t : Fin 2 → ℕ) = ![t.val % 288, t.val / 288] := by
  have ht : t.val < 576 := lt_of_lt_of_eq t.isLt N_0
  show cc0_transform_5 (grid0.coords t) = _
  unfold cc0_transform_5
  rw [point_block, point_col]
  show ![(BitVec.ofNat 32 (t.val % 288)).toNat, (BitVec.ofNat 32 (t.val / 288)).toNat] = _
  rw [BitVec.toNat_ofNat, BitVec.toNat_ofNat, Nat.mod_eq_of_lt (show t.val % 288 < 2 ^ 32 by omega), Nat.mod_eq_of_lt (show t.val / 288 < 2 ^ 32 by omega)]

/-- The result's blocks fill its array. -/
theorem out_covers (a : (pcfg0 (F := Ideal)).Adm) : ((cfg0 a).win 5).Covers := by
  refine ⟨fun b => ?_, fun β => ?_⟩
  · fin_cases b
    · show 0 < 256; decide
    · show 0 < 1024; decide
  · have hb0 : (β (0 : Fin 2)).val < 288 := lt_of_lt_of_eq (β (0 : Fin 2)).isLt (show ((cfg0 a).win 5).nblk (0 : Fin 2) = 288 from (show (73728 + 256 - 1) / 256 = 288 by norm_num))
    have hb1 : (β (1 : Fin 2)).val < 2 := lt_of_lt_of_eq (β (1 : Fin 2)).isLt (show ((cfg0 a).win 5).nblk (1 : Fin 2) = 2 from (show (2048 + 1024 - 1) / 1024 = 2 by norm_num))
    have hN : grid0.N = 576 := N_0
    refine ⟨(⟨288 * (β (1 : Fin 2)).val + (β (0 : Fin 2)).val, by omega⟩ : Fin grid0.N), ?_, fun b => ⟨?_, Or.inl rfl⟩⟩
    · unfold Pipeline.Window.flush
      rw [Bool.and_eq_true]
      refine ⟨rfl, ?_⟩
      by_cases hl : 288 * (β (1 : Fin 2)).val + (β (0 : Fin 2)).val + 1 = grid0.N
      · rw [Bool.or_eq_true]; left; exact decide_eq_true hl
      · rw [Bool.or_eq_true]; right
        refine decide_eq_true ⟨(by show 288 * (β (1 : Fin 2)).val + (β (0 : Fin 2)).val + 1 < grid0.N; omega), fun e => ?_⟩
        have e1 := (out_index a _).symm.trans (e.trans (out_index a _))
        have e2 : (288 * (β (1 : Fin 2)).val + (β (0 : Fin 2)).val + 1) % 288 = (288 * (β (1 : Fin 2)).val + (β (0 : Fin 2)).val) % 288 := congrFun e1 0
        omega
    · refine (congrFun (out_index a _) b).trans ?_
      fin_cases b
      · show (288 * (β (1 : Fin 2)).val + (β (0 : Fin 2)).val) % 288 = (β (0 : Fin 2)).val; omega
      · show (288 * (β (1 : Fin 2)).val + (β (0 : Fin 2)).val) / 288 = (β (1 : Fin 2)).val; omega

attribute [local irreducible] outAt in
/-- The array the call leaves: the up projection at every row and column. -/
theorem final (h : InRange m) (hO : Ok m) : (dats m hO 0 (0 : Dev nD)).arrAt 5 (cfgM m hO).N = upArr m := by
  refine (dats m hO 0 (0 : Dev nD)).arrAt_eq_of_covers 5 _ (out_covers _) fun t _ y => ?_
  have ht : t.val < 576 := lt_of_lt_of_eq t.isLt N_0
  rw [after0_5]
  have y0 : (y (0 : Fin 2)).val < 256 := (y (0 : Fin 2)).isLt
  have y1 : (y (1 : Fin 2)).val < 1024 := (y (1 : Fin 2)).isLt
  refine Eq.trans ?_ ((point m h hO t ⟨(y (0 : Fin 2)).val, y0⟩ ⟨(y (1 : Fin 2)).val, y1⟩ ⟨256 * (t.val % 288) + (y (0 : Fin 2)).val, by omega⟩
    ⟨1024 * (t.val / 288) + (y (1 : Fin 2)).val, by omega⟩ rfl rfl).trans ?_)
  · refine (cast_eq _ _).trans (congrArg (outAt m hO (0 : Dev nD) t) ?_)
    funext b; fin_cases b <;> rfl
  · have e : ((View.whole main_v13).slice ((win0 (adm m hO) 5).rect t)).emb y
        = (ix2 (⟨256 * (t.val % 288) + (y (0 : Fin 2)).val, by omega⟩ : Fin 73728) (⟨1024 * (t.val / 288) + (y (1 : Fin 2)).val, by omega⟩ : Fin 2048) : S73728x2048.Idx) := by
      funext b
      apply Fin.ext
      refine (ValueKit.view_emb_slice_whole_unit_val main_v13 _ _ _ y b).trans ?_
      show (win0 (adm m hO) 5).index t b * (spec0_5.size b) + (y b).val = _
      rw [show (win0 (adm m hO) 5).index t b = (![t.val % 288, t.val / 288] : Fin 2 → ℕ) b from congrFun (out_index _ t) b]
      fin_cases b
      · show t.val % 288 * 256 + (y (0 : Fin 2)).val = 256 * (t.val % 288) + (y (0 : Fin 2)).val; omega
      · show t.val / 288 * 1024 + (y (1 : Fin 2)).val = 1024 * (t.val / 288) + (y (1 : Fin 2)).val; omega
    exact (congrArg (upArr m) e).symm

end Cert.Kernel5Ideal.Value

end
-- ==== Proof.UpRef.lean ====
module

public import proofs.«01_k».proof.Proof.Gen.Reference5Ideal.Run
public import proofs.«01_k».proof.Proof.UpValue

@[expose] public section

set_option maxRecDepth 16384

/-! The up projection's array is what its reference's operations compute. -/

noncomputable section

open Idealize.ShloMosaic Idealize.ShloMosaic.TcCoe Idealize.SL.Sem

namespace Cert.Reference5Ideal.Value

open Cert.Reference5Ideal Cert.Reference5Ideal.Gen

/-- A stack of weights gathered by a column of expert numbers, at an entry: the entry of the expert's weight. -/
theorem gather_weight {α : Type} (x : S32x2048x4096.Idx → α) (idx : IVec S288x1 32) (b : Fin 288) (k : Fin 2048) (l : Fin 4096) (e : Fin 32)
    (he : idx (ix2 b (0 : Fin 1)) = BitVec.ofNat 32 e.val) :
    Host.gather gather_S32x2048x4096_S288x1_S288x2048x4096_12_0_n_n_0_1_120484096 x idx (ix3 b k l) = x (ix3 e k l) := by
  unfold Host.gather
  refine congrArg x (funext fun a => Fin.ext ?_)
  set d := gather_S32x2048x4096_S288x1_S288x2048x4096_12_0_n_n_0_1_120484096 with hd
  show d.start (ix3 b k l) idx a + d.batchCoord (ix3 b k l) a + d.offCoord (ix3 b k l) a = (ix3 e k l a).val
  rw [d.batchCoord_eq_zero _ _ (by rw [hd]; exact List.not_mem_nil), Nat.add_zero]
  have hel := e.isLt
  match a with
  | ⟨0, _⟩ =>
    show d.start (ix3 b k l) idx (0 : Fin 3) + d.offCoord (ix3 b k l) (0 : Fin 3) = e.val
    rw [d.offCoord_eq_zero _ _ (fun h => ((d.mem_sKept _).1 h).1 (by rw [hd]; exact List.mem_singleton.2 rfl)), Nat.add_zero]
    unfold GatherDims.start
    rw [dif_pos (show (0 : Fin 3) ∈ d.startIndexMap by rw [hd]; exact List.mem_singleton.2 rfl)]
    have hsi : ∀ q, d.siIdx (ix3 b k l) q = ix2 b (0 : Fin 1) := by
      intro q
      funext b'
      apply Fin.ext
      match b' with
      | ⟨0, _⟩ => rfl
      | ⟨1, _⟩ =>
        have h1 : ∀ y : S288x1.Idx, (y (1 : Fin 2)).val = 0 := fun y => by
          have : (y (1 : Fin 2)).val < 1 := (y (1 : Fin 2)).isLt
          omega
        exact h1 _
    rw [hsi, he, WordCmp.toInt_ofNat_of_lt (by omega)]
    show min ((e.val : Int)).toNat (32 - 1) = e.val
    omega
  | ⟨1, _⟩ =>
    show d.start (ix3 b k l) idx (1 : Fin 3) + d.offCoord (ix3 b k l) (1 : Fin 3) = k.val
    unfold GatherDims.start
    rw [dif_neg (show (1 : Fin 3) ∉ d.startIndexMap by rw [hd]; decide), Nat.zero_add]
    unfold GatherDims.offCoord
    rw [dif_pos (show (1 : Fin 3) ∈ d.sKept by rw [hd]; decide)]
    rfl
  | ⟨2, _⟩ =>
    show d.start (ix3 b k l) idx (2 : Fin 3) + d.offCoord (ix3 b k l) (2 : Fin 3) = l.val
    unfold GatherDims.start
    rw [dif_neg (show (2 : Fin 3) ∉ d.startIndexMap by rw [hd]; decide), Nat.zero_add]
    unfold GatherDims.offCoord
    rw [dif_pos (show (2 : Fin 3) ∈ d.sKept by rw [hd]; decide)]
    rfl

/-- The column of expert numbers the gathers read: an expert number in range is kept. -/
theorem expert_col (be : S288.Idx → BitVec 32) (b : Fin 288) (hb : (be (ix1 b)).toNat < 32) :
    broadcastInDim S288x1 ![0] bcast_S288_S288x1_0 (select (cmpi .slt be (broadcastInDim S288 ![] bcast_S_S288 (constantI S_ 32 0#32)))
      (addi be (broadcastInDim S288 ![] bcast_S_S288 (constantI S_ 32 32#32))) be) (ix2 b (0 : Fin 1)) = BitVec.ofNat 32 (be (ix1 b)).toNat := by
  have e : ∀ x : S288.Idx → BitVec 32, broadcastInDim S288x1 ![0] bcast_S288_S288x1_0 x (ix2 b (0 : Fin 1)) = x (ix1 b) := fun x => by
    unfold broadcastInDim
    exact congrArg x (Cert.Kernel5Ideal.Gen.vec_idx _ _ rfl)
  rw [e]
  show Scalar.select (IntOp.cmpi .slt (be (ix1 b)) 0#32) _ (be (ix1 b)) = _
  rw [WordCmp.cmpi_slt_of_lt (by omega) (by decide)]
  rw [show (0#32 : BitVec 32).toNat = 0 from rfl, decide_eq_false (Nat.not_lt_zero _), BitVec.ofNat_toNat, BitVec.setWidth_eq]
  rfl

open Cert.Kernel5Ideal.Value in
set_option maxHeartbeats 2000000 in
/-- The reference runs to the up projection at every row and column, its arguments unchanged. -/
theorem run_up (m : (ℓ : Loc nD τ sig) → Buf (Elt Ideal) ℓ) (ρ : Dev nD → PrngReg)
    (hbe : ∀ (c : Dev nD) (b : Fin 288), ((m ((c.tc : Thread nD τ).loc main_arg0) : IVec S288 32) (ix1 b)).toNat < 32)
    (hnu : ∀ c : Dev nD, ((m ((c.tc : Thread nD τ).loc main_arg1) : IVec S1 32) (ix1 (0 : Fin 1))).toNat ≤ 288) :
    θ_run defs (onTc (τ := τ) (main (F := Ideal))) ⟨m, fun _ => 0, ρ⟩ fun r => ∀ c : Dev nD,
      r.2.mem ((c.tc : Thread nD τ).loc main_v46) = (fun j => upAt
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run (F := Ideal) m ρ)
  clear h
  unfold res_main_v46
  have hbe' := hbe c
  have hnu' := hnu c
  generalize m ((c.tc : Thread nD τ).loc main_arg0) = be at hbe' ⊢
  generalize m ((c.tc : Thread nD τ).loc main_arg1) = nu at hnu' ⊢
  generalize m ((c.tc : Thread nD τ).loc main_arg2) = x
  generalize m ((c.tc : Thread nD τ).loc main_arg3) = w
  generalize m ((c.tc : Thread nD τ).loc main_arg4) = bias
  funext j
  idx_vars j
  show _ = upAt be nu x w bias j0 j1
  have hcol := (expert_col be (⟨j0.val / 256, by omega⟩ : Fin 288) (hbe' _)).trans
    (congrArg (BitVec.ofNat 32) (Nat.mod_eq_of_lt (hbe' (⟨j0.val / 256, by omega⟩ : Fin 288))).symm
      : _ = BitVec.ofNat 32 (expertRow be j0).val)
  have hw := fun k q => gather_weight w _ _ k q (expertRow be j0) hcol
  have hb := fun q => Routing.gather_row gather_S32x4096_S288x1_S288x4096_1_0_n_n_0_1_14096 rfl rfl rfl rfl rfl bias _ _ q (expertRow be j0) hcol (by decide)
  generalize hG : Host.gather gather_S32x2048x4096_S288x1_S288x2048x4096_12_0_n_n_0_1_120484096 w _ = G at hw ⊢
  generalize hH : Host.gather gather_S32x4096_S288x1_S288x4096_1_0_n_n_0_1_14096 bias _ = H at hb ⊢
  pointwise
  have hcmp : IntOp.cmpi CmpIPredicate.slt (BitVec.ofNat 32 (j0.val / 256)) (nu (ix1 (0 : Fin 1)))
      = BitVec.ofBool (decide (j0.val / 256 < (nu (ix1 (0 : Fin 1))).toNat)) := by
    have e : (BitVec.ofNat 32 (j0.val / 256)).toNat = j0.val / 256 := by rw [BitVec.toNat_ofNat, Nat.mod_eq_of_lt (by omega)]
    rw [WordCmp.cmpi_slt_of_lt (by rw [e]; omega) (by omega), e]
  rw [hcmp]
  unfold upAt
  by_cases hu : j0.val / 256 < (nu (ix1 (0 : Fin 1))).toNat
  · rw [if_pos hu, decide_eq_true hu]
    refine (show Scalar.select (BitVec.ofBool true) _ _ = _ from rfl).trans ?_
    have hp : ∀ q : Fin 4096, (∑ k : Fin 2048, Ideal.ofBits FTy.bf16 (Host.bitcastConvertNarrow S73728x1024x2 16 x
          splits_S73728x1024_w32_S73728x1024x2_w16 (ix3 j0 (⟨k.val % 1024, by omega⟩ : Fin 1024) (⟨k.val / 1024, by omega⟩ : Fin 2)))
          * G (ix3 (⟨j0.val / 256, by omega⟩ : Fin 288) k q)) + H (ix2 (⟨j0.val / 256, by omega⟩ : Fin 288) q)
        = projected be x w bias j0 q := fun q => by
      unfold projected
      refine congrArg₂ (· + ·) (Finset.sum_congr rfl fun k _ => ?_) (hb q)
      rw [hw]
      refine congrArg (· * w (ix3 (expertRow be j0) k q)) ?_
      unfold rowHalf
      have e1 : (splits_S73728x1024_w32_S73728x1024x2_w16).drop (ix3 j0 (⟨k.val % 1024, by omega⟩ : Fin 1024) (⟨k.val / 1024, by omega⟩ : Fin 2))
          = (ix2 j0 (⟨k.val % 1024, by omega⟩ : Fin 1024) : S73728x1024.Idx) := by
        funext a
        apply Fin.ext
        match a with
        | ⟨0, _⟩ => rfl
        | ⟨1, _⟩ => rfl
      have e2 : k.val / 1024 * 16 = 16 * (k.val / 1024) := by omega
      exact congrArg (Ideal.ofBits .bf16) (congrArg₂ (fun (p : S73728x1024.Idx) (l : Nat) => (x p : BitVec 32).extractLsb' l 16) e1 e2)
    have hone : Ideal.ofBits .f32 0x3F800000#32 = 1 := by pointwise
    unfold act Common.lgst
    rw [hone, ← hp, ← hp]
    rfl
  · rw [if_neg hu, decide_eq_false hu]
    refine (show Scalar.select (BitVec.ofBool false) _ _ = _ from rfl).trans ?_
    show constant (F := Ideal) S_ FTy.f32 0#32 ix0 = 0
    pointwise

end Cert.Reference5Ideal.Value

end
-- ==== Proof.lean ====
/- The proof of the claims about the recurrence call, the branch-mixing call, the input projection and the experts' two projections. -/
module

public import proofs.«01_k».proof.Defs
public import proofs.«01_k».proof.Proof.Gen.Kernel2
public import proofs.«01_k».proof.Proof.Gen.Kernel
public import proofs.«01_k».proof.Proof.SsdBitsFrame
public import proofs.«01_k».proof.Proof.Gen.KernelIdeal
public import proofs.«01_k».proof.Proof.SsdFrame
public import proofs.«01_k».proof.Proof.Gen.ReferenceIdeal
public import proofs.«01_k».proof.Proof.SsdRef
public import proofs.«01_k».proof.Proof.Gen.Kernel2.Frame
public import proofs.«01_k».proof.Proof.Gen.Kernel2Ideal
public import proofs.«01_k».proof.Proof.Gen.Reference2Ideal
public import proofs.«01_k».proof.Proof.MixRef
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.InprojRef
public import proofs.«01_k».proof.Proof.Gen.Pre_in_range
public import proofs.«01_k».proof.Proof.DownBitsTable
public import proofs.«01_k».proof.Proof.DownRef
public import proofs.«01_k».proof.Proof.Gen.Pre_in_range_up
public import proofs.«01_k».proof.Proof.UpBitsTable
public import proofs.«01_k».proof.Proof.UpRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The recurrence's kernel, at the bit patterns, runs to its end with its arguments unchanged and every counter at
    zero. -/
theorem frame_ssd : quiescent_Kernel := fun m ρ _ =>
  Cert.Kernel.Gen.frame m ρ

/-- The recurrence's reference ends with its arguments unchanged and every counter at zero. -/
theorem quiescent_ssd_reference : quiescent_ReferenceIdeal := fun m ρ _ =>
  (θ_run Cert.ReferenceIdeal.defs _ _).mono (fun r h => ⟨fun c =>
      ⟨(h c _ rfl).trans (Cert.ReferenceIdeal.Value.kept m c _ (by decide +kernel)),
        (h c _ rfl).trans (Cert.ReferenceIdeal.Value.kept m c _ (by decide +kernel)),
        (h c _ rfl).trans (Cert.ReferenceIdeal.Value.kept m c _ (by decide +kernel)),
        (h c _ rfl).trans (Cert.ReferenceIdeal.Value.kept m c _ (by decide +kernel)),
        (h c _ rfl).trans (Cert.ReferenceIdeal.Value.kept m c _ (by decide +kernel)),
        (h c _ rfl).trans (Cert.ReferenceIdeal.Value.kept m c _ (by decide +kernel)),
        (h c _ rfl).trans (Cert.ReferenceIdeal.Value.kept m c _ (by decide +kernel)),
        (h c _ rfl).trans (Cert.ReferenceIdeal.Value.kept m c _ (by decide +kernel))⟩,
      sem_eq_zero_of_no_sems (by decide) r.2⟩)
    (Cert.ReferenceIdeal.Value.run_fold (F := Ideal) m ρ)

/-- The branch-mixing reference ends with its arguments unchanged and every counter at zero. -/
theorem quiescent_mix_reference : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The branch-mixing kernel and its reference compute the same array. -/
theorem algebraic_mix : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩)
    (Cert.Reference2Ideal.Value.run (F := Ideal) m' ρ')
  rw [(h c).1, Cert.Kernel2Ideal.Value.final, Cert.Reference2Ideal.Value.res_eq]
  simp only [hagree c]
  rfl

/-- The input projection's reference ends with its arguments unchanged and every counter at zero. -/
theorem quiescent_inproj_reference : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The input projection kernel and its reference compute the same array. -/
theorem algebraic_inproj : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩)
    (Cert.Reference3Ideal.Value.run_proj m' ρ')
  rw [(h c).1, Cert.Kernel3Ideal.Value.final]
  simp only [hagree c]
  rfl

attribute [local instance] Cert.Pre_in_range.Gen.facts

/-- The precondition of the down projection, read at the buffers of its idealized kernel. -/
theorem down_range (m : (ℓ : Loc Cert.Kernel4Ideal.nD Cert.Kernel4Ideal.τ Cert.Kernel4Ideal.sig) → Buf (Elt Ideal) ℓ) (h : Pre_Kernel4Ideal m) :
    Cert.Kernel4Ideal.Gen.InRange m :=
  have e := Cert.Kernel4Ideal.Gen.inRange_of_pre (F := Ideal) _ _ _ _ _ (h 0)
  ⟨e.1, e.2.1, e.2.2⟩

/-- The precondition of the down projection, read at the buffers of its kernel. -/
theorem down_bits_range (m : (ℓ : Loc Cert.Kernel4.nD Cert.Kernel4.τ Cert.Kernel4.sig) → Buf (Elt Bits) ℓ) (h : Pre_Kernel4 m) :
    Cert.Kernel4.Gen.InRange m :=
  have e := Cert.Kernel4.Gen.inRange_of_pre (F := Bits) _ _ _ _ _ (h 0)
  ⟨e.1, e.2.1, e.2.2⟩

/-- The down projection's kernel runs to its end without a fault and leaves its arguments as they were. -/
theorem frame_down : quiescent_Kernel4 := fun m ρ hp =>
  have hr := down_bits_range m hp
  have hO := Cert.Kernel4.Gen.ok_of_inRange hr
  (θ_run Cert.Kernel4.defs _ _).mono (fun _ h => ⟨fun c => (h.1 c).2, h.2⟩)
    (Cert.Kernel4.Gen.run_blocks (F := Bits) m ρ hO (Cert.Kernel4.Gen.steady_of_inRange hr hO))

/-- The idealized kernel of the down projection runs to its end and leaves its arguments as they were. -/
theorem frame_down_ideal : quiescent_Kernel4Ideal := fun m ρ hp =>
  have hr := down_range m hp
  have hO := Cert.Kernel4Ideal.Gen.ok_of_inRange hr
  (θ_run Cert.Kernel4Ideal.defs _ _).mono (fun _ h => ⟨fun c => (h.1 c).2, h.2⟩)
    (Cert.Kernel4Ideal.Gen.run_blocks (F := Ideal) m ρ hO (Cert.Kernel4Ideal.Gen.steady_of_inRange hr hO))

/-- The reference of the down projection runs to its end and leaves its arguments as they were. -/
theorem quiescent_down_reference : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The same, stated under the kernel's precondition. -/
theorem quiescent_down_reference_in_range : quiescent_Reference4Ideal_pre_in_range := fun m ρ _ =>
  quiescent_down_reference m ρ trivial

/-- The down projection's kernel and its reference end with equal results over the extended reals. -/
theorem algebraic_down : algebraic_Kernel4Ideal_Reference4Ideal := by
  intro m ρ m' ρ' hp hagree
  have hr := down_range m hp
  have hO := Cert.Kernel4Ideal.Gen.ok_of_inRange hr
  refine ⟨fun _ => Cert.Kernel4Ideal.Value.downArr m, ?_, ?_⟩
  · refine (θ_run Cert.Kernel4Ideal.defs _ _).mono (fun r h c => ⟨?_, (h.1 c).2⟩)
      (Cert.Kernel4Ideal.Gen.run_blocks (F := Ideal) m ρ hO (Cert.Kernel4Ideal.Gen.steady_of_inRange hr hO))
    obtain rfl : c = 0 := Subsingleton.elim _ _
    exact (h.1 0).1.trans (Cert.Kernel4Ideal.Value.final m hr hO)
  · have hbe : ∀ (c : Dev Cert.Reference4Ideal.nD) (b : Fin 288),
        (m' ((c.tc : Thread Cert.Reference4Ideal.nD Cert.Reference4Ideal.τ).loc Cert.Reference4Ideal.main_arg0) (ix1 b)).toNat < 32 := fun c b => by
      obtain rfl : c = 0 := Subsingleton.elim _ _
      rw [(hagree 0).1]
      exact hr.expert_lt b
    have hnu : ∀ c : Dev Cert.Reference4Ideal.nD,
        (m' ((c.tc : Thread Cert.Reference4Ideal.nD Cert.Reference4Ideal.τ).loc Cert.Reference4Ideal.main_arg1) (ix1 0)).toNat ≤ 288 := fun c => by
      obtain rfl : c = 0 := Subsingleton.elim _ _
      rw [(hagree 0).2.1]
      exact hr.used_le
    refine (θ_run Cert.Reference4Ideal.defs _ _).mono (fun _ h c => ⟨?_, (h c).2⟩) (Cert.Reference4Ideal.Value.run_down m' ρ' hbe hnu)
    obtain rfl : c = 0 := Subsingleton.elim _ _
    rw [(h 0).1]
    simp only [hagree 0]
    rfl

attribute [local instance] Cert.Pre_in_range_up.Gen.facts

/-- The precondition of the up projection, read at the buffers of its idealized kernel. -/
theorem up_range (m : (ℓ : Loc Cert.Kernel5Ideal.nD Cert.Kernel5Ideal.τ Cert.Kernel5Ideal.sig) → Buf (Elt Ideal) ℓ) (h : Pre_Kernel5Ideal m) :
    Cert.Kernel5Ideal.Gen.InRange m :=
  have e := Cert.Kernel5Ideal.Gen.inRange_of_pre (F := Ideal) _ _ _ _ _ (h 0)
  ⟨e.1, e.2.1, e.2.2⟩

/-- The precondition of the up projection, read at the buffers of its kernel. -/
theorem up_bits_range (m : (ℓ : Loc Cert.Kernel5.nD Cert.Kernel5.τ Cert.Kernel5.sig) → Buf (Elt Bits) ℓ) (h : Pre_Kernel5 m) :
    Cert.Kernel5.Gen.InRange m :=
  have e := Cert.Kernel5.Gen.inRange_of_pre (F := Bits) _ _ _ _ _ (h 0)
  ⟨e.1, e.2.1, e.2.2⟩

/-- The up projection's kernel runs to its end without a fault and leaves its arguments as they were. -/
theorem frame_up : quiescent_Kernel5 := fun m ρ hp =>
  have hr := up_bits_range m hp
  have hO := Cert.Kernel5.Gen.ok_of_inRange hr
  (θ_run Cert.Kernel5.defs _ _).mono (fun _ h => ⟨fun c => (h.1 c).2, h.2⟩)
    (Cert.Kernel5.Gen.run_blocks (F := Bits) m ρ hO (Cert.Kernel5.Gen.steady_of_inRange hr hO))

/-- The idealized kernel of the up projection runs to its end and leaves its arguments as they were. -/
theorem frame_up_ideal : quiescent_Kernel5Ideal := fun m ρ hp =>
  have hr := up_range m hp
  have hO := Cert.Kernel5Ideal.Gen.ok_of_inRange hr
  (θ_run Cert.Kernel5Ideal.defs _ _).mono (fun _ h => ⟨fun c => (h.1 c).2, h.2⟩)
    (Cert.Kernel5Ideal.Gen.run_blocks (F := Ideal) m ρ hO (Cert.Kernel5Ideal.Gen.steady_of_inRange hr hO))

/-- The reference of the up projection runs to its end and leaves its arguments as they were. -/
theorem quiescent_up_reference : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The same, stated under the kernel's precondition. -/
theorem quiescent_up_reference_in_range_up : quiescent_Reference5Ideal_pre_in_range_up := fun m ρ _ =>
  quiescent_up_reference m ρ trivial

/-- The up projection's kernel and its reference end with equal results over the extended reals. -/
theorem algebraic_up : algebraic_Kernel5Ideal_Reference5Ideal := by
  intro m ρ m' ρ' hp hagree
  have hr := up_range m hp
  have hO := Cert.Kernel5Ideal.Gen.ok_of_inRange hr
  refine ⟨fun _ => Cert.Kernel5Ideal.Value.upArr m, ?_, ?_⟩
  · refine (θ_run Cert.Kernel5Ideal.defs _ _).mono (fun r h c => ⟨?_, (h.1 c).2⟩)
      (Cert.Kernel5Ideal.Gen.run_blocks (F := Ideal) m ρ hO (Cert.Kernel5Ideal.Gen.steady_of_inRange hr hO))
    obtain rfl : c = 0 := Subsingleton.elim _ _
    exact (h.1 0).1.trans (Cert.Kernel5Ideal.Value.final m hr hO)
  · have hbe : ∀ (c : Dev Cert.Reference5Ideal.nD) (b : Fin 288),
        (m' ((c.tc : Thread Cert.Reference5Ideal.nD Cert.Reference5Ideal.τ).loc Cert.Reference5Ideal.main_arg0) (ix1 b)).toNat < 32 := fun c b => by
      obtain rfl : c = 0 := Subsingleton.elim _ _
      rw [(hagree 0).1]
      exact hr.expert_lt b
    have hnu : ∀ c : Dev Cert.Reference5Ideal.nD,
        (m' ((c.tc : Thread Cert.Reference5Ideal.nD Cert.Reference5Ideal.τ).loc Cert.Reference5Ideal.main_arg1) (ix1 0)).toNat ≤ 288 := fun c => by
      obtain rfl : c = 0 := Subsingleton.elim _ _
      rw [(hagree 0).2.1]
      exact hr.used_le
    refine (θ_run Cert.Reference5Ideal.defs _ _).mono (fun _ h c => ⟨?_, (h c).2⟩) (Cert.Reference5Ideal.Value.run_up m' ρ' hbe hnu)
    obtain rfl : c = 0 := Subsingleton.elim _ _
    rw [(h 0).1]
    simp only [hagree 0]
    rfl

/-- All claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts,
    Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_in_range.Gen.facts, Cert.Pre_in_range_up.Gen.facts,
    frame_ssd, fun m ρ _ => Cert.KernelIdeal.Gen.frame m ρ, quiescent_ssd_reference,
    fun m ρ _ => Cert.Kernel2.Gen.frame m ρ, fun m ρ _ => Cert.Kernel2Ideal.Gen.frame m ρ, quiescent_mix_reference,
    fun m ρ _ => Cert.Kernel3.Gen.frame m ρ, fun m ρ _ => Cert.Kernel3Ideal.Gen.frame m ρ, quiescent_inproj_reference,
    frame_down, frame_down_ideal, quiescent_down_reference, quiescent_down_reference_in_range,
    frame_up, frame_up_ideal, quiescent_up_reference, quiescent_up_reference_in_range_up,
    (trivial : preserves_Kernel_KernelIdeal), (trivial : preserves_Kernel2_Kernel2Ideal), algebraic_mix,
    (trivial : preserves_Kernel3_Kernel3Ideal), algebraic_inproj,
    (trivial : preserves_Kernel4_Kernel4Ideal), algebraic_down,
    (trivial : preserves_Kernel5_Kernel5Ideal), algebraic_up⟩

end Cert.Proof

end
